-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S4x88x4096 : Shape := ⟨3, ![4, 88, 4096]⟩
abbrev S4 : Shape := ⟨1, ![4]⟩
abbrev S4x80x4096 : Shape := ⟨3, ![4, 80, 4096]⟩
abbrev S_ : Shape := ⟨0, ![]⟩
abbrev S1 : Shape := ⟨1, ![1]⟩
abbrev S1x88x4096 : Shape := ⟨3, ![1, 88, 4096]⟩
abbrev S88x4096 : Shape := ⟨2, ![88, 4096]⟩
abbrev S1x80x4096 : Shape := ⟨3, ![1, 80, 4096]⟩
abbrev S80x4096 : Shape := ⟨2, ![80, 4096]⟩
abbrev S512x256 : Shape := ⟨2, ![512, 256]⟩
abbrev S88x256 : Shape := ⟨2, ![88, 256]⟩
abbrev S80x256 : Shape := ⟨2, ![80, 256]⟩

abbrev nBuf : Space → Nat
  | .hbm => 3
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S4x88x4096, .f32⟩
  | .local _ .vmem, ⟨4, _⟩ => ⟨S4x88x4096, .f32⟩
  | .local _ .vmem, ⟨5, _⟩ => ⟨S4x88x4096, .f32⟩
  | .local _ .vmem, ⟨6, _⟩ => ⟨S4x88x4096, .f32⟩
  | .local _ .vmem, ⟨7, _⟩ => ⟨S4x80x4096, .f32⟩
  | .local _ .vmem, ⟨8, _⟩ => ⟨S4x80x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 25 51 bufScoped semScoped dmaSemScoped tileCredit tileCredit_eq_zero tileCredit_pos).withBarriers [(0, 24)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch4 : Ref sig .tc := ⟨.vmem, 4, rfl⟩
abbrev cc0_scratch8 : Ref sig .tc := ⟨.vmem, 5, rfl⟩
abbrev cc0_scratch12 : Ref sig .tc := ⟨.vmem, 6, rfl⟩
abbrev cc0_scratch16 : Ref sig .tc := ⟨.vmem, 7, rfl⟩
abbrev cc0_scratch20 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 24

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_2 : BitVec 32 := 1#32
  let v9 : BitVec 32 := Scalar.xori v8 c1_i32_2
  let c4_i32_3 : BitVec 32 := 4#32
  let v10 : BitVec 32 := Scalar.andi v9 c4_i32_3
  let c2_i32 : BitVec 32 := 2#32
  let v11 : BitVec 32 := Scalar.andi v9 c2_i32
  let v12 : BitVec 32 := Scalar.ori v10 v11
  let c1_i32_4 : BitVec 32 := 1#32
  let v13 : BitVec 32 := Scalar.shrsi v9 c1_i32_4
  let v14 : BitVec 32 := Scalar.xori v9 v13
  let c1_i32_5 : BitVec 32 := 1#32
  let v15 : BitVec 32 := Scalar.andi v14 c1_i32_5
  let v16 : BitVec 32 := Scalar.ori v12 v15
  let c1_i32_17 : BitVec 32 := 1#32
  let v34 : BitVec 32 := Scalar.muli v16 c1_i32_17
  let v35 : BitVec 32 := Scalar.addi c0_i32 v34
  v35.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_6 : BitVec 32 := 2#32
  let v17 : BitVec 32 := Scalar.xori v8 c2_i32_6
  let c4_i32_7 : BitVec 32 := 4#32
  let v18 : BitVec 32 := Scalar.andi v17 c4_i32_7
  let c2_i32_8 : BitVec 32 := 2#32
  let v19 : BitVec 32 := Scalar.andi v17 c2_i32_8
  let v20 : BitVec 32 := Scalar.ori v18 v19
  let c1_i32_9 : BitVec 32 := 1#32
  let v21 : BitVec 32 := Scalar.shrsi v17 c1_i32_9
  let v22 : BitVec 32 := Scalar.xori v17 v21
  let c1_i32_10 : BitVec 32 := 1#32
  let v23 : BitVec 32 := Scalar.andi v22 c1_i32_10
  let v24 : BitVec 32 := Scalar.ori v20 v23
  let c1_i32_19 : BitVec 32 := 1#32
  let v36 : BitVec 32 := Scalar.muli v24 c1_i32_19
  let v37 : BitVec 32 := Scalar.addi c0_i32_20 v36
  v37.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_11 : BitVec 32 := 4#32
  let v25 : BitVec 32 := Scalar.xori v8 c4_i32_11
  let c4_i32_12 : BitVec 32 := 4#32
  let v26 : BitVec 32 := Scalar.andi v25 c4_i32_12
  let c2_i32_13 : BitVec 32 := 2#32
  let v27 : BitVec 32 := Scalar.andi v25 c2_i32_13
  let v28 : BitVec 32 := Scalar.ori v26 v27
  let c1_i32_14 : BitVec 32 := 1#32
  let v29 : BitVec 32 := Scalar.shrsi v25 c1_i32_14
  let v30 : BitVec 32 := Scalar.xori v25 v29
  let c1_i32_15 : BitVec 32 := 1#32
  let v31 : BitVec 32 := Scalar.andi v30 c1_i32_15
  let v32 : BitVec 32 := Scalar.ori v28 v31
  let c1_i32_22 : BitVec 32 := 1#32
  let v38 : BitVec 32 := Scalar.muli v32 c1_i32_22
  let v39 : BitVec 32 := Scalar.addi c0_i32_23 v38
  v39.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_25 : BitVec 32 := 2#32
  let v40 : BitVec 32 := Scalar.xori v8 c2_i32_25
  let c4_i32_26 : BitVec 32 := 4#32
  let v41 : BitVec 32 := Scalar.andi v40 c4_i32_26
  let c2_i32_27 : BitVec 32 := 2#32
  let v42 : BitVec 32 := Scalar.andi v40 c2_i32_27
  let v43 : BitVec 32 := Scalar.ori v41 v42
  let c1_i32_28 : BitVec 32 := 1#32
  let v44 : BitVec 32 := Scalar.shrsi v40 c1_i32_28
  let v45 : BitVec 32 := Scalar.xori v40 v44
  let c1_i32_29 : BitVec 32 := 1#32
  let v46 : BitVec 32 := Scalar.andi v45 c1_i32_29
  let v47 : BitVec 32 := Scalar.ori v43 v46
  let c1_i32_33 : BitVec 32 := 1#32
  let v48 : BitVec 32 := Scalar.muli v47 c1_i32_33
  let v49 : BitVec 32 := Scalar.addi c0_i32_34 v48
  v49.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_39 : BitVec 32 := 4#32
  let v57 : BitVec 32 := Scalar.xori v8 c4_i32_39
  let c4_i32_40 : BitVec 32 := 4#32
  let v58 : BitVec 32 := Scalar.andi v57 c4_i32_40
  let c2_i32_41 : BitVec 32 := 2#32
  let v59 : BitVec 32 := Scalar.andi v57 c2_i32_41
  let v60 : BitVec 32 := Scalar.ori v58 v59
  let c1_i32_42 : BitVec 32 := 1#32
  let v61 : BitVec 32 := Scalar.shrsi v57 c1_i32_42
  let v62 : BitVec 32 := Scalar.xori v57 v61
  let c1_i32_43 : BitVec 32 := 1#32
  let v63 : BitVec 32 := Scalar.andi v62 c1_i32_43
  let v64 : BitVec 32 := Scalar.ori v60 v63
  let c1_i32_47 : BitVec 32 := 1#32
  let v65 : BitVec 32 := Scalar.muli v64 c1_i32_47
  let v66 : BitVec 32 := Scalar.addi c0_i32_48 v65
  v66.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_52 : BitVec 32 := 1#32
  let v74 : BitVec 32 := Scalar.xori v8 c1_i32_52
  let c4_i32_53 : BitVec 32 := 4#32
  let v75 : BitVec 32 := Scalar.andi v74 c4_i32_53
  let c2_i32_54 : BitVec 32 := 2#32
  let v76 : BitVec 32 := Scalar.andi v74 c2_i32_54
  let v77 : BitVec 32 := Scalar.ori v75 v76
  let c1_i32_55 : BitVec 32 := 1#32
  let v78 : BitVec 32 := Scalar.shrsi v74 c1_i32_55
  let v79 : BitVec 32 := Scalar.xori v74 v78
  let c1_i32_56 : BitVec 32 := 1#32
  let v80 : BitVec 32 := Scalar.andi v79 c1_i32_56
  let v81 : BitVec 32 := Scalar.ori v77 v80
  let c1_i32_60 : BitVec 32 := 1#32
  let v82 : BitVec 32 := Scalar.muli v81 c1_i32_60
  let v83 : BitVec 32 := Scalar.addi c0_i32_61 v82
  v83.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_65 : BitVec 32 := 2#32
  let v91 : BitVec 32 := Scalar.xori v8 c2_i32_65
  let c4_i32_66 : BitVec 32 := 4#32
  let v92 : BitVec 32 := Scalar.andi v91 c4_i32_66
  let c2_i32_67 : BitVec 32 := 2#32
  let v93 : BitVec 32 := Scalar.andi v91 c2_i32_67
  let v94 : BitVec 32 := Scalar.ori v92 v93
  let c1_i32_68 : BitVec 32 := 1#32
  let v95 : BitVec 32 := Scalar.shrsi v91 c1_i32_68
  let v96 : BitVec 32 := Scalar.xori v91 v95
  let c1_i32_69 : BitVec 32 := 1#32
  let v97 : BitVec 32 := Scalar.andi v96 c1_i32_69
  let v98 : BitVec 32 := Scalar.ori v94 v97
  let c1_i32_73 : BitVec 32 := 1#32
  let v99 : BitVec 32 := Scalar.muli v98 c1_i32_73
  let v100 : BitVec 32 := Scalar.addi c0_i32_74 v99
  v100.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_78 : BitVec 32 := 4#32
  let v108 : BitVec 32 := Scalar.xori v8 c4_i32_78
  let c4_i32_79 : BitVec 32 := 4#32
  let v109 : BitVec 32 := Scalar.andi v108 c4_i32_79
  let c2_i32_80 : BitVec 32 := 2#32
  let v110 : BitVec 32 := Scalar.andi v108 c2_i32_80
  let v111 : BitVec 32 := Scalar.ori v109 v110
  let c1_i32_81 : BitVec 32 := 1#32
  let v112 : BitVec 32 := Scalar.shrsi v108 c1_i32_81
  let v113 : BitVec 32 := Scalar.xori v108 v112
  let c1_i32_82 : BitVec 32 := 1#32
  let v114 : BitVec 32 := Scalar.andi v113 c1_i32_82
  let v115 : BitVec 32 := Scalar.ori v111 v114
  let c1_i32_86 : BitVec 32 := 1#32
  let v116 : BitVec 32 := Scalar.muli v115 c1_i32_86
  let v117 : BitVec 32 := Scalar.addi c0_i32_87 v116
  v117.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_91 : BitVec 32 := 1#32
  let v125 : BitVec 32 := Scalar.xori v8 c1_i32_91
  let c4_i32_92 : BitVec 32 := 4#32
  let v126 : BitVec 32 := Scalar.andi v125 c4_i32_92
  let c2_i32_93 : BitVec 32 := 2#32
  let v127 : BitVec 32 := Scalar.andi v125 c2_i32_93
  let v128 : BitVec 32 := Scalar.ori v126 v127
  let c1_i32_94 : BitVec 32 := 1#32
  let v129 : BitVec 32 := Scalar.shrsi v125 c1_i32_94
  let v130 : BitVec 32 := Scalar.xori v125 v129
  let c1_i32_95 : BitVec 32 := 1#32
  let v131 : BitVec 32 := Scalar.andi v130 c1_i32_95
  let v132 : BitVec 32 := Scalar.ori v128 v131
  let c1_i32_99 : BitVec 32 := 1#32
  let v133 : BitVec 32 := Scalar.muli v132 c1_i32_99
  let v134 : BitVec 32 := Scalar.addi c0_i32_100 v133
  v134.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v149 : BitVec 32 := Scalar.muli v2 c512_i32
  let v150 : Index := Scalar.indexCast v149
  let c0_108 : Index := 0#32
  ![v150.toNat, 0]
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_123 : BitVec 32 := 1#32
  let v167 : BitVec 32 := Scalar.xori v8 c1_i32_123
  let c4_i32_124 : BitVec 32 := 4#32
  let v168 : BitVec 32 := Scalar.andi v167 c4_i32_124
  let c2_i32_125 : BitVec 32 := 2#32
  let v169 : BitVec 32 := Scalar.andi v167 c2_i32_125
  let v170 : BitVec 32 := Scalar.ori v168 v169
  let c1_i32_126 : BitVec 32 := 1#32
  let v171 : BitVec 32 := Scalar.shrsi v167 c1_i32_126
  let v172 : BitVec 32 := Scalar.xori v167 v171
  let c1_i32_127 : BitVec 32 := 1#32
  let v173 : BitVec 32 := Scalar.andi v172 c1_i32_127
  let v174 : BitVec 32 := Scalar.ori v170 v173
  let c1_i32_132 : BitVec 32 := 1#32
  let v175 : BitVec 32 := Scalar.muli v174 c1_i32_132
  let v176 : BitVec 32 := Scalar.addi c0_i32_133 v175
  v176.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_152 : BitVec 32 := 2#32
  let v200 : BitVec 32 := Scalar.xori v8 c2_i32_152
  let c4_i32_153 : BitVec 32 := 4#32
  let v201 : BitVec 32 := Scalar.andi v200 c4_i32_153
  let c2_i32_154 : BitVec 32 := 2#32
  let v202 : BitVec 32 := Scalar.andi v200 c2_i32_154
  let v203 : BitVec 32 := Scalar.ori v201 v202
  let c1_i32_155 : BitVec 32 := 1#32
  let v204 : BitVec 32 := Scalar.shrsi v200 c1_i32_155
  let v205 : BitVec 32 := Scalar.xori v200 v204
  let c1_i32_156 : BitVec 32 := 1#32
  let v206 : BitVec 32 := Scalar.andi v205 c1_i32_156
  let v207 : BitVec 32 := Scalar.ori v203 v206
  let c1_i32_161 : BitVec 32 := 1#32
  let v208 : BitVec 32 := Scalar.muli v207 c1_i32_161
  let v209 : BitVec 32 := Scalar.addi c0_i32_162 v208
  v209.toNat
def k0_dev12 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_181 : BitVec 32 := 4#32
  let v233 : BitVec 32 := Scalar.xori v8 c4_i32_181
  let c4_i32_182 : BitVec 32 := 4#32
  let v234 : BitVec 32 := Scalar.andi v233 c4_i32_182
  let c2_i32_183 : BitVec 32 := 2#32
  let v235 : BitVec 32 := Scalar.andi v233 c2_i32_183
  let v236 : BitVec 32 := Scalar.ori v234 v235
  let c1_i32_184 : BitVec 32 := 1#32
  let v237 : BitVec 32 := Scalar.shrsi v233 c1_i32_184
  let v238 : BitVec 32 := Scalar.xori v233 v237
  let c1_i32_185 : BitVec 32 := 1#32
  let v239 : BitVec 32 := Scalar.andi v238 c1_i32_185
  let v240 : BitVec 32 := Scalar.ori v236 v239
  let c1_i32_190 : BitVec 32 := 1#32
  let v241 : BitVec 32 := Scalar.muli v240 c1_i32_190
  let v242 : BitVec 32 := Scalar.addi c0_i32_191 v241
  v242.toNat
def k0_dev13 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_210 : BitVec 32 := 1#32
  let v266 : BitVec 32 := Scalar.xori v8 c1_i32_210
  let c4_i32_211 : BitVec 32 := 4#32
  let v267 : BitVec 32 := Scalar.andi v266 c4_i32_211
  let c2_i32_212 : BitVec 32 := 2#32
  let v268 : BitVec 32 := Scalar.andi v266 c2_i32_212
  let v269 : BitVec 32 := Scalar.ori v267 v268
  let c1_i32_213 : BitVec 32 := 1#32
  let v270 : BitVec 32 := Scalar.shrsi v266 c1_i32_213
  let v271 : BitVec 32 := Scalar.xori v266 v270
  let c1_i32_214 : BitVec 32 := 1#32
  let v272 : BitVec 32 := Scalar.andi v271 c1_i32_214
  let v273 : BitVec 32 := Scalar.ori v269 v272
  let c1_i32_219 : BitVec 32 := 1#32
  let v274 : BitVec 32 := Scalar.muli v273 c1_i32_219
  let v275 : BitVec 32 := Scalar.addi c0_i32_220 v274
  v275.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_239 : BitVec 32 := 2#32
  let v299 : BitVec 32 := Scalar.xori v8 c2_i32_239
  let c4_i32_240 : BitVec 32 := 4#32
  let v300 : BitVec 32 := Scalar.andi v299 c4_i32_240
  let c2_i32_241 : BitVec 32 := 2#32
  let v301 : BitVec 32 := Scalar.andi v299 c2_i32_241
  let v302 : BitVec 32 := Scalar.ori v300 v301
  let c1_i32_242 : BitVec 32 := 1#32
  let v303 : BitVec 32 := Scalar.shrsi v299 c1_i32_242
  let v304 : BitVec 32 := Scalar.xori v299 v303
  let c1_i32_243 : BitVec 32 := 1#32
  let v305 : BitVec 32 := Scalar.andi v304 c1_i32_243
  let v306 : BitVec 32 := Scalar.ori v302 v305
  let c1_i32_248 : BitVec 32 := 1#32
  let v307 : BitVec 32 := Scalar.muli v306 c1_i32_248
  let v308 : BitVec 32 := Scalar.addi c0_i32_249 v307
  v308.toNat
def k0_dev15 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_268 : BitVec 32 := 4#32
  let v332 : BitVec 32 := Scalar.xori v8 c4_i32_268
  let c4_i32_269 : BitVec 32 := 4#32
  let v333 : BitVec 32 := Scalar.andi v332 c4_i32_269
  let c2_i32_270 : BitVec 32 := 2#32
  let v334 : BitVec 32 := Scalar.andi v332 c2_i32_270
  let v335 : BitVec 32 := Scalar.ori v333 v334
  let c1_i32_271 : BitVec 32 := 1#32
  let v336 : BitVec 32 := Scalar.shrsi v332 c1_i32_271
  let v337 : BitVec 32 := Scalar.xori v332 v336
  let c1_i32_272 : BitVec 32 := 1#32
  let v338 : BitVec 32 := Scalar.andi v337 c1_i32_272
  let v339 : BitVec 32 := Scalar.ori v335 v338
  let c1_i32_277 : BitVec 32 := 1#32
  let v340 : BitVec 32 := Scalar.muli v339 c1_i32_277
  let v341 : BitVec 32 := Scalar.addi c0_i32_278 v340
  v341.toNat
def k0_off2 (d0 : Dev nD) (c2_i32_361 : BitVec 32) (c0_i32_374 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let v428 : BitVec 32 := Scalar.xori v8 c2_i32_361
  let c4_i32_362 : BitVec 32 := 4#32
  let v429 : BitVec 32 := Scalar.andi v428 c4_i32_362
  let c2_i32_363 : BitVec 32 := 2#32
  let v430 : BitVec 32 := Scalar.andi v428 c2_i32_363
  let v431 : BitVec 32 := Scalar.ori v429 v430
  let c1_i32_364 : BitVec 32 := 1#32
  let v432 : BitVec 32 := Scalar.shrsi v428 c1_i32_364
  let v433 : BitVec 32 := Scalar.xori v428 v432
  let c1_i32_365 : BitVec 32 := 1#32
  let v434 : BitVec 32 := Scalar.andi v433 c1_i32_365
  let v435 : BitVec 32 := Scalar.ori v431 v434
  let c512_i32_373 : BitVec 32 := 512#32
  let v443 : BitVec 32 := Scalar.muli v435 c512_i32_373
  let v444 : BitVec 32 := Scalar.addi v443 c0_i32_374
  let v445 : Index := Scalar.indexCast v444
  let c0_375 : Index := 0#32
  ![v445.toNat, 0]
def k0_off2_at (r : Fin 28) : BitVec 32 × BitVec 32 :=
  if r.val < 14 then
    if r.val < 7 then
      if r.val < 3 then
        if r.val < 1 then
          (2#32, 0#32)
        else
          if r.val < 2 then
            (4#32, 176#32)
          else
            (1#32, 344#32)
      else
        if r.val < 5 then
          if r.val < 4 then
            (2#32, 88#32)
          else
            (3#32, 0#32)
        else
          if r.val < 6 then
            (6#32, 176#32)
          else
            (5#32, 344#32)
    else
      if r.val < 10 then
        if r.val < 8 then
          (3#32, 88#32)
        else
          if r.val < 9 then
            (7#32, 0#32)
          else
            (7#32, 176#32)
      else
        if r.val < 12 then
          if r.val < 11 then
            (7#32, 344#32)
          else
            (7#32, 88#32)
        else
          if r.val < 13 then
            (6#32, 0#32)
          else
            (5#32, 176#32)
  else
    if r.val < 21 then
      if r.val < 17 then
        if r.val < 15 then
          (3#32, 344#32)
        else
          if r.val < 16 then
            (6#32, 88#32)
          else
            (4#32, 0#32)
      else
        if r.val < 19 then
          if r.val < 18 then
            (1#32, 176#32)
          else
            (2#32, 344#32)
        else
          if r.val < 20 then
            (4#32, 88#32)
          else
            (5#32, 0#32)
    else
      if r.val < 24 then
        if r.val < 22 then
          (3#32, 176#32)
        else
          if r.val < 23 then
            (6#32, 344#32)
          else
            (5#32, 88#32)
      else
        if r.val < 26 then
          if r.val < 25 then
            (1#32, 0#32)
          else
            (2#32, 176#32)
        else
          if r.val < 27 then
            (4#32, 344#32)
          else
            (1#32, 88#32)
def k0_off3 (d0 : Dev nD) (c4_i32_421 : BitVec 32) (c264_i32_434 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let v504 : BitVec 32 := Scalar.xori v8 c4_i32_421
  let c4_i32_422 : BitVec 32 := 4#32
  let v505 : BitVec 32 := Scalar.andi v504 c4_i32_422
  let c2_i32_423 : BitVec 32 := 2#32
  let v506 : BitVec 32 := Scalar.andi v504 c2_i32_423
  let v507 : BitVec 32 := Scalar.ori v505 v506
  let c1_i32_424 : BitVec 32 := 1#32
  let v508 : BitVec 32 := Scalar.shrsi v504 c1_i32_424
  let v509 : BitVec 32 := Scalar.xori v504 v508
  let c1_i32_425 : BitVec 32 := 1#32
  let v510 : BitVec 32 := Scalar.andi v509 c1_i32_425
  let v511 : BitVec 32 := Scalar.ori v507 v510
  let c512_i32_433 : BitVec 32 := 512#32
  let v519 : BitVec 32 := Scalar.muli v511 c512_i32_433
  let v520 : BitVec 32 := Scalar.addi v519 c264_i32_434
  let v521 : Index := Scalar.indexCast v520
  let c0_435 : Index := 0#32
  ![v521.toNat, 0]
def k0_dev16 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_466 : BitVec 32 := 4#32
  let v558 : BitVec 32 := Scalar.xori v8 c4_i32_466
  let c4_i32_467 : BitVec 32 := 4#32
  let v559 : BitVec 32 := Scalar.andi v558 c4_i32_467
  let c2_i32_468 : BitVec 32 := 2#32
  let v560 : BitVec 32 := Scalar.andi v558 c2_i32_468
  let v561 : BitVec 32 := Scalar.ori v559 v560
  let c1_i32_469 : BitVec 32 := 1#32
  let v562 : BitVec 32 := Scalar.shrsi v558 c1_i32_469
  let v563 : BitVec 32 := Scalar.xori v558 v562
  let c1_i32_470 : BitVec 32 := 1#32
  let v564 : BitVec 32 := Scalar.andi v563 c1_i32_470
  let v565 : BitVec 32 := Scalar.ori v561 v564
  let c1_i32_475 : BitVec 32 := 1#32
  let v566 : BitVec 32 := Scalar.muli v565 c1_i32_475
  let v567 : BitVec 32 := Scalar.addi c0_i32_476 v566
  v567.toNat
def k0_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_496 : BitVec 32 := 1#32
  let v592 : BitVec 32 := Scalar.xori v8 c1_i32_496
  let c4_i32_497 : BitVec 32 := 4#32
  let v593 : BitVec 32 := Scalar.andi v592 c4_i32_497
  let c2_i32_498 : BitVec 32 := 2#32
  let v594 : BitVec 32 := Scalar.andi v592 c2_i32_498
  let v595 : BitVec 32 := Scalar.ori v593 v594
  let c1_i32_499 : BitVec 32 := 1#32
  let v596 : BitVec 32 := Scalar.shrsi v592 c1_i32_499
  let v597 : BitVec 32 := Scalar.xori v592 v596
  let c1_i32_500 : BitVec 32 := 1#32
  let v598 : BitVec 32 := Scalar.andi v597 c1_i32_500
  let v599 : BitVec 32 := Scalar.ori v595 v598
  let c1_i32_505 : BitVec 32 := 1#32
  let v600 : BitVec 32 := Scalar.muli v599 c1_i32_505
  let v601 : BitVec 32 := Scalar.addi c0_i32_506 v600
  v601.toNat
def k0_dev18 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_526 : BitVec 32 := 2#32
  let v626 : BitVec 32 := Scalar.xori v8 c2_i32_526
  let c4_i32_527 : BitVec 32 := 4#32
  let v627 : BitVec 32 := Scalar.andi v626 c4_i32_527
  let c2_i32_528 : BitVec 32 := 2#32
  let v628 : BitVec 32 := Scalar.andi v626 c2_i32_528
  let v629 : BitVec 32 := Scalar.ori v627 v628
  let c1_i32_529 : BitVec 32 := 1#32
  let v630 : BitVec 32 := Scalar.shrsi v626 c1_i32_529
  let v631 : BitVec 32 := Scalar.xori v626 v630
  let c1_i32_530 : BitVec 32 := 1#32
  let v632 : BitVec 32 := Scalar.andi v631 c1_i32_530
  let v633 : BitVec 32 := Scalar.ori v629 v632
  let c1_i32_535 : BitVec 32 := 1#32
  let v634 : BitVec 32 := Scalar.muli v633 c1_i32_535
  let v635 : BitVec 32 := Scalar.addi c0_i32_536 v634
  v635.toNat
def k0_dev19 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_556 : BitVec 32 := 4#32
  let v660 : BitVec 32 := Scalar.xori v8 c4_i32_556
  let c4_i32_557 : BitVec 32 := 4#32
  let v661 : BitVec 32 := Scalar.andi v660 c4_i32_557
  let c2_i32_558 : BitVec 32 := 2#32
  let v662 : BitVec 32 := Scalar.andi v660 c2_i32_558
  let v663 : BitVec 32 := Scalar.ori v661 v662
  let c1_i32_559 : BitVec 32 := 1#32
  let v664 : BitVec 32 := Scalar.shrsi v660 c1_i32_559
  let v665 : BitVec 32 := Scalar.xori v660 v664
  let c1_i32_560 : BitVec 32 := 1#32
  let v666 : BitVec 32 := Scalar.andi v665 c1_i32_560
  let v667 : BitVec 32 := Scalar.ori v663 v666
  let c1_i32_565 : BitVec 32 := 1#32
  let v668 : BitVec 32 := Scalar.muli v667 c1_i32_565
  let v669 : BitVec 32 := Scalar.addi c0_i32_566 v668
  v669.toNat
def k0_dev20 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_586 : BitVec 32 := 1#32
  let v694 : BitVec 32 := Scalar.xori v8 c1_i32_586
  let c4_i32_587 : BitVec 32 := 4#32
  let v695 : BitVec 32 := Scalar.andi v694 c4_i32_587
  let c2_i32_588 : BitVec 32 := 2#32
  let v696 : BitVec 32 := Scalar.andi v694 c2_i32_588
  let v697 : BitVec 32 := Scalar.ori v695 v696
  let c1_i32_589 : BitVec 32 := 1#32
  let v698 : BitVec 32 := Scalar.shrsi v694 c1_i32_589
  let v699 : BitVec 32 := Scalar.xori v694 v698
  let c1_i32_590 : BitVec 32 := 1#32
  let v700 : BitVec 32 := Scalar.andi v699 c1_i32_590
  let v701 : BitVec 32 := Scalar.ori v697 v700
  let c1_i32_595 : BitVec 32 := 1#32
  let v702 : BitVec 32 := Scalar.muli v701 c1_i32_595
  let v703 : BitVec 32 := Scalar.addi c0_i32_596 v702
  v703.toNat
def k0_dev21 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_616 : BitVec 32 := 2#32
  let v728 : BitVec 32 := Scalar.xori v8 c2_i32_616
  let c4_i32_617 : BitVec 32 := 4#32
  let v729 : BitVec 32 := Scalar.andi v728 c4_i32_617
  let c2_i32_618 : BitVec 32 := 2#32
  let v730 : BitVec 32 := Scalar.andi v728 c2_i32_618
  let v731 : BitVec 32 := Scalar.ori v729 v730
  let c1_i32_619 : BitVec 32 := 1#32
  let v732 : BitVec 32 := Scalar.shrsi v728 c1_i32_619
  let v733 : BitVec 32 := Scalar.xori v728 v732
  let c1_i32_620 : BitVec 32 := 1#32
  let v734 : BitVec 32 := Scalar.andi v733 c1_i32_620
  let v735 : BitVec 32 := Scalar.ori v731 v734
  let c1_i32_625 : BitVec 32 := 1#32
  let v736 : BitVec 32 := Scalar.muli v735 c1_i32_625
  let v737 : BitVec 32 := Scalar.addi c0_i32_626 v736
  v737.toNat
def k0_dev22 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_645 : BitVec 32 := 2#32
  let v760 : BitVec 32 := Scalar.xori v8 c2_i32_645
  let c4_i32_646 : BitVec 32 := 4#32
  let v761 : BitVec 32 := Scalar.andi v760 c4_i32_646
  let c2_i32_647 : BitVec 32 := 2#32
  let v762 : BitVec 32 := Scalar.andi v760 c2_i32_647
  let v763 : BitVec 32 := Scalar.ori v761 v762
  let c1_i32_648 : BitVec 32 := 1#32
  let v764 : BitVec 32 := Scalar.shrsi v760 c1_i32_648
  let v765 : BitVec 32 := Scalar.xori v760 v764
  let c1_i32_649 : BitVec 32 := 1#32
  let v766 : BitVec 32 := Scalar.andi v765 c1_i32_649
  let v767 : BitVec 32 := Scalar.ori v763 v766
  let c1_i32_652 : BitVec 32 := 1#32
  let v770 : BitVec 32 := Scalar.muli v767 c1_i32_652
  let v771 : BitVec 32 := Scalar.addi c0_i32_653 v770
  v771.toNat
def k0_dev23 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_668 : BitVec 32 := 4#32
  let v786 : BitVec 32 := Scalar.xori v8 c4_i32_668
  let c4_i32_669 : BitVec 32 := 4#32
  let v787 : BitVec 32 := Scalar.andi v786 c4_i32_669
  let c2_i32_670 : BitVec 32 := 2#32
  let v788 : BitVec 32 := Scalar.andi v786 c2_i32_670
  let v789 : BitVec 32 := Scalar.ori v787 v788
  let c1_i32_671 : BitVec 32 := 1#32
  let v790 : BitVec 32 := Scalar.shrsi v786 c1_i32_671
  let v791 : BitVec 32 := Scalar.xori v786 v790
  let c1_i32_672 : BitVec 32 := 1#32
  let v792 : BitVec 32 := Scalar.andi v791 c1_i32_672
  let v793 : BitVec 32 := Scalar.ori v789 v792
  let c1_i32_675 : BitVec 32 := 1#32
  let v796 : BitVec 32 := Scalar.muli v793 c1_i32_675
  let v797 : BitVec 32 := Scalar.addi c0_i32_676 v796
  v797.toNat
def k0_dev24 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_691 : BitVec 32 := 1#32
  let v812 : BitVec 32 := Scalar.xori v8 c1_i32_691
  let c4_i32_692 : BitVec 32 := 4#32
  let v813 : BitVec 32 := Scalar.andi v812 c4_i32_692
  let c2_i32_693 : BitVec 32 := 2#32
  let v814 : BitVec 32 := Scalar.andi v812 c2_i32_693
  let v815 : BitVec 32 := Scalar.ori v813 v814
  let c1_i32_694 : BitVec 32 := 1#32
  let v816 : BitVec 32 := Scalar.shrsi v812 c1_i32_694
  let v817 : BitVec 32 := Scalar.xori v812 v816
  let c1_i32_695 : BitVec 32 := 1#32
  let v818 : BitVec 32 := Scalar.andi v817 c1_i32_695
  let v819 : BitVec 32 := Scalar.ori v815 v818
  let c1_i32_698 : BitVec 32 := 1#32
  let v822 : BitVec 32 := Scalar.muli v819 c1_i32_698
  let v823 : BitVec 32 := Scalar.addi c0_i32_699 v822
  v823.toNat
def k0_dev25 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_714 : BitVec 32 := 2#32
  let v838 : BitVec 32 := Scalar.xori v8 c2_i32_714
  let c4_i32_715 : BitVec 32 := 4#32
  let v839 : BitVec 32 := Scalar.andi v838 c4_i32_715
  let c2_i32_716 : BitVec 32 := 2#32
  let v840 : BitVec 32 := Scalar.andi v838 c2_i32_716
  let v841 : BitVec 32 := Scalar.ori v839 v840
  let c1_i32_717 : BitVec 32 := 1#32
  let v842 : BitVec 32 := Scalar.shrsi v838 c1_i32_717
  let v843 : BitVec 32 := Scalar.xori v838 v842
  let c1_i32_718 : BitVec 32 := 1#32
  let v844 : BitVec 32 := Scalar.andi v843 c1_i32_718
  let v845 : BitVec 32 := Scalar.ori v841 v844
  let c1_i32_721 : BitVec 32 := 1#32
  let v848 : BitVec 32 := Scalar.muli v845 c1_i32_721
  let v849 : BitVec 32 := Scalar.addi c0_i32_722 v848
  v849.toNat
def k0_dev26 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_737 : BitVec 32 := 4#32
  let v864 : BitVec 32 := Scalar.xori v8 c4_i32_737
  let c4_i32_738 : BitVec 32 := 4#32
  let v865 : BitVec 32 := Scalar.andi v864 c4_i32_738
  let c2_i32_739 : BitVec 32 := 2#32
  let v866 : BitVec 32 := Scalar.andi v864 c2_i32_739
  let v867 : BitVec 32 := Scalar.ori v865 v866
  let c1_i32_740 : BitVec 32 := 1#32
  let v868 : BitVec 32 := Scalar.shrsi v864 c1_i32_740
  let v869 : BitVec 32 := Scalar.xori v864 v868
  let c1_i32_741 : BitVec 32 := 1#32
  let v870 : BitVec 32 := Scalar.andi v869 c1_i32_741
  let v871 : BitVec 32 := Scalar.ori v867 v870
  let c1_i32_744 : BitVec 32 := 1#32
  let v874 : BitVec 32 := Scalar.muli v871 c1_i32_744
  let v875 : BitVec 32 := Scalar.addi c0_i32_745 v874
  v875.toNat
def k0_dev27 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_760 : BitVec 32 := 1#32
  let v890 : BitVec 32 := Scalar.xori v8 c1_i32_760
  let c4_i32_761 : BitVec 32 := 4#32
  let v891 : BitVec 32 := Scalar.andi v890 c4_i32_761
  let c2_i32_762 : BitVec 32 := 2#32
  let v892 : BitVec 32 := Scalar.andi v890 c2_i32_762
  let v893 : BitVec 32 := Scalar.ori v891 v892
  let c1_i32_763 : BitVec 32 := 1#32
  let v894 : BitVec 32 := Scalar.shrsi v890 c1_i32_763
  let v895 : BitVec 32 := Scalar.xori v890 v894
  let c1_i32_764 : BitVec 32 := 1#32
  let v896 : BitVec 32 := Scalar.andi v895 c1_i32_764
  let v897 : BitVec 32 := Scalar.ori v893 v896
  let c1_i32_767 : BitVec 32 := 1#32
  let v900 : BitVec 32 := Scalar.muli v897 c1_i32_767
  let v901 : BitVec 32 := Scalar.addi c0_i32_768 v900
  v901.toNat
def k0_dev28 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_871 : BitVec 32 := 1#32
  let v1032 : BitVec 32 := Scalar.xori v8 c1_i32_871
  let c4_i32_872 : BitVec 32 := 4#32
  let v1033 : BitVec 32 := Scalar.andi v1032 c4_i32_872
  let c2_i32_873 : BitVec 32 := 2#32
  let v1034 : BitVec 32 := Scalar.andi v1032 c2_i32_873
  let v1035 : BitVec 32 := Scalar.ori v1033 v1034
  let c1_i32_874 : BitVec 32 := 1#32
  let v1036 : BitVec 32 := Scalar.shrsi v1032 c1_i32_874
  let v1037 : BitVec 32 := Scalar.xori v1032 v1036
  let c1_i32_875 : BitVec 32 := 1#32
  let v1038 : BitVec 32 := Scalar.andi v1037 c1_i32_875
  let v1039 : BitVec 32 := Scalar.ori v1035 v1038
  let c1_i32_880 : BitVec 32 := 1#32
  let v1040 : BitVec 32 := Scalar.muli v1039 c1_i32_880
  let v1041 : BitVec 32 := Scalar.addi c0_i32_881 v1040
  v1041.toNat
def k0_dev29 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_901 : BitVec 32 := 2#32
  let v1066 : BitVec 32 := Scalar.xori v8 c2_i32_901
  let c4_i32_902 : BitVec 32 := 4#32
  let v1067 : BitVec 32 := Scalar.andi v1066 c4_i32_902
  let c2_i32_903 : BitVec 32 := 2#32
  let v1068 : BitVec 32 := Scalar.andi v1066 c2_i32_903
  let v1069 : BitVec 32 := Scalar.ori v1067 v1068
  let c1_i32_904 : BitVec 32 := 1#32
  let v1070 : BitVec 32 := Scalar.shrsi v1066 c1_i32_904
  let v1071 : BitVec 32 := Scalar.xori v1066 v1070
  let c1_i32_905 : BitVec 32 := 1#32
  let v1072 : BitVec 32 := Scalar.andi v1071 c1_i32_905
  let v1073 : BitVec 32 := Scalar.ori v1069 v1072
  let c1_i32_910 : BitVec 32 := 1#32
  let v1074 : BitVec 32 := Scalar.muli v1073 c1_i32_910
  let v1075 : BitVec 32 := Scalar.addi c0_i32_911 v1074
  v1075.toNat
def k0_dev30 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_931 : BitVec 32 := 4#32
  let v1100 : BitVec 32 := Scalar.xori v8 c4_i32_931
  let c4_i32_932 : BitVec 32 := 4#32
  let v1101 : BitVec 32 := Scalar.andi v1100 c4_i32_932
  let c2_i32_933 : BitVec 32 := 2#32
  let v1102 : BitVec 32 := Scalar.andi v1100 c2_i32_933
  let v1103 : BitVec 32 := Scalar.ori v1101 v1102
  let c1_i32_934 : BitVec 32 := 1#32
  let v1104 : BitVec 32 := Scalar.shrsi v1100 c1_i32_934
  let v1105 : BitVec 32 := Scalar.xori v1100 v1104
  let c1_i32_935 : BitVec 32 := 1#32
  let v1106 : BitVec 32 := Scalar.andi v1105 c1_i32_935
  let v1107 : BitVec 32 := Scalar.ori v1103 v1106
  let c1_i32_940 : BitVec 32 := 1#32
  let v1108 : BitVec 32 := Scalar.muli v1107 c1_i32_940
  let v1109 : BitVec 32 := Scalar.addi c0_i32_941 v1108
  v1109.toNat
def k0_dev31 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_961 : BitVec 32 := 1#32
  let v1134 : BitVec 32 := Scalar.xori v8 c1_i32_961
  let c4_i32_962 : BitVec 32 := 4#32
  let v1135 : BitVec 32 := Scalar.andi v1134 c4_i32_962
  let c2_i32_963 : BitVec 32 := 2#32
  let v1136 : BitVec 32 := Scalar.andi v1134 c2_i32_963
  let v1137 : BitVec 32 := Scalar.ori v1135 v1136
  let c1_i32_964 : BitVec 32 := 1#32
  let v1138 : BitVec 32 := Scalar.shrsi v1134 c1_i32_964
  let v1139 : BitVec 32 := Scalar.xori v1134 v1138
  let c1_i32_965 : BitVec 32 := 1#32
  let v1140 : BitVec 32 := Scalar.andi v1139 c1_i32_965
  let v1141 : BitVec 32 := Scalar.ori v1137 v1140
  let c1_i32_970 : BitVec 32 := 1#32
  let v1142 : BitVec 32 := Scalar.muli v1141 c1_i32_970
  let v1143 : BitVec 32 := Scalar.addi c0_i32_971 v1142
  v1143.toNat
def k0_dev32 (d0 : Dev nD) : Nat :=
  let c0_i32_1001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_991 : BitVec 32 := 2#32
  let v1168 : BitVec 32 := Scalar.xori v8 c2_i32_991
  let c4_i32_992 : BitVec 32 := 4#32
  let v1169 : BitVec 32 := Scalar.andi v1168 c4_i32_992
  let c2_i32_993 : BitVec 32 := 2#32
  let v1170 : BitVec 32 := Scalar.andi v1168 c2_i32_993
  let v1171 : BitVec 32 := Scalar.ori v1169 v1170
  let c1_i32_994 : BitVec 32 := 1#32
  let v1172 : BitVec 32 := Scalar.shrsi v1168 c1_i32_994
  let v1173 : BitVec 32 := Scalar.xori v1168 v1172
  let c1_i32_995 : BitVec 32 := 1#32
  let v1174 : BitVec 32 := Scalar.andi v1173 c1_i32_995
  let v1175 : BitVec 32 := Scalar.ori v1171 v1174
  let c1_i32_1000 : BitVec 32 := 1#32
  let v1176 : BitVec 32 := Scalar.muli v1175 c1_i32_1000
  let v1177 : BitVec 32 := Scalar.addi c0_i32_1001 v1176
  v1177.toNat
def k0_dev33 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1021 : BitVec 32 := 4#32
  let v1202 : BitVec 32 := Scalar.xori v8 c4_i32_1021
  let c4_i32_1022 : BitVec 32 := 4#32
  let v1203 : BitVec 32 := Scalar.andi v1202 c4_i32_1022
  let c2_i32_1023 : BitVec 32 := 2#32
  let v1204 : BitVec 32 := Scalar.andi v1202 c2_i32_1023
  let v1205 : BitVec 32 := Scalar.ori v1203 v1204
  let c1_i32_1024 : BitVec 32 := 1#32
  let v1206 : BitVec 32 := Scalar.shrsi v1202 c1_i32_1024
  let v1207 : BitVec 32 := Scalar.xori v1202 v1206
  let c1_i32_1025 : BitVec 32 := 1#32
  let v1208 : BitVec 32 := Scalar.andi v1207 c1_i32_1025
  let v1209 : BitVec 32 := Scalar.ori v1205 v1208
  let c1_i32_1030 : BitVec 32 := 1#32
  let v1210 : BitVec 32 := Scalar.muli v1209 c1_i32_1030
  let v1211 : BitVec 32 := Scalar.addi c0_i32_1031 v1210
  v1211.toNat
def k0_dev34 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1050 : BitVec 32 := 1#32
  let v1234 : BitVec 32 := Scalar.xori v8 c1_i32_1050
  let c4_i32_1051 : BitVec 32 := 4#32
  let v1235 : BitVec 32 := Scalar.andi v1234 c4_i32_1051
  let c2_i32_1052 : BitVec 32 := 2#32
  let v1236 : BitVec 32 := Scalar.andi v1234 c2_i32_1052
  let v1237 : BitVec 32 := Scalar.ori v1235 v1236
  let c1_i32_1053 : BitVec 32 := 1#32
  let v1238 : BitVec 32 := Scalar.shrsi v1234 c1_i32_1053
  let v1239 : BitVec 32 := Scalar.xori v1234 v1238
  let c1_i32_1054 : BitVec 32 := 1#32
  let v1240 : BitVec 32 := Scalar.andi v1239 c1_i32_1054
  let v1241 : BitVec 32 := Scalar.ori v1237 v1240
  let c1_i32_1057 : BitVec 32 := 1#32
  let v1244 : BitVec 32 := Scalar.muli v1241 c1_i32_1057
  let v1245 : BitVec 32 := Scalar.addi c0_i32_1058 v1244
  v1245.toNat
def k0_dev35 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1073 : BitVec 32 := 2#32
  let v1260 : BitVec 32 := Scalar.xori v8 c2_i32_1073
  let c4_i32_1074 : BitVec 32 := 4#32
  let v1261 : BitVec 32 := Scalar.andi v1260 c4_i32_1074
  let c2_i32_1075 : BitVec 32 := 2#32
  let v1262 : BitVec 32 := Scalar.andi v1260 c2_i32_1075
  let v1263 : BitVec 32 := Scalar.ori v1261 v1262
  let c1_i32_1076 : BitVec 32 := 1#32
  let v1264 : BitVec 32 := Scalar.shrsi v1260 c1_i32_1076
  let v1265 : BitVec 32 := Scalar.xori v1260 v1264
  let c1_i32_1077 : BitVec 32 := 1#32
  let v1266 : BitVec 32 := Scalar.andi v1265 c1_i32_1077
  let v1267 : BitVec 32 := Scalar.ori v1263 v1266
  let c1_i32_1080 : BitVec 32 := 1#32
  let v1270 : BitVec 32 := Scalar.muli v1267 c1_i32_1080
  let v1271 : BitVec 32 := Scalar.addi c0_i32_1081 v1270
  v1271.toNat
def k0_dev36 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1096 : BitVec 32 := 4#32
  let v1286 : BitVec 32 := Scalar.xori v8 c4_i32_1096
  let c4_i32_1097 : BitVec 32 := 4#32
  let v1287 : BitVec 32 := Scalar.andi v1286 c4_i32_1097
  let c2_i32_1098 : BitVec 32 := 2#32
  let v1288 : BitVec 32 := Scalar.andi v1286 c2_i32_1098
  let v1289 : BitVec 32 := Scalar.ori v1287 v1288
  let c1_i32_1099 : BitVec 32 := 1#32
  let v1290 : BitVec 32 := Scalar.shrsi v1286 c1_i32_1099
  let v1291 : BitVec 32 := Scalar.xori v1286 v1290
  let c1_i32_1100 : BitVec 32 := 1#32
  let v1292 : BitVec 32 := Scalar.andi v1291 c1_i32_1100
  let v1293 : BitVec 32 := Scalar.ori v1289 v1292
  let c1_i32_1103 : BitVec 32 := 1#32
  let v1296 : BitVec 32 := Scalar.muli v1293 c1_i32_1103
  let v1297 : BitVec 32 := Scalar.addi c0_i32_1104 v1296
  v1297.toNat
def k0_dev37 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1119 : BitVec 32 := 1#32
  let v1312 : BitVec 32 := Scalar.xori v8 c1_i32_1119
  let c4_i32_1120 : BitVec 32 := 4#32
  let v1313 : BitVec 32 := Scalar.andi v1312 c4_i32_1120
  let c2_i32_1121 : BitVec 32 := 2#32
  let v1314 : BitVec 32 := Scalar.andi v1312 c2_i32_1121
  let v1315 : BitVec 32 := Scalar.ori v1313 v1314
  let c1_i32_1122 : BitVec 32 := 1#32
  let v1316 : BitVec 32 := Scalar.shrsi v1312 c1_i32_1122
  let v1317 : BitVec 32 := Scalar.xori v1312 v1316
  let c1_i32_1123 : BitVec 32 := 1#32
  let v1318 : BitVec 32 := Scalar.andi v1317 c1_i32_1123
  let v1319 : BitVec 32 := Scalar.ori v1315 v1318
  let c1_i32_1126 : BitVec 32 := 1#32
  let v1322 : BitVec 32 := Scalar.muli v1319 c1_i32_1126
  let v1323 : BitVec 32 := Scalar.addi c0_i32_1127 v1322
  v1323.toNat
def k0_dev38 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1142 : BitVec 32 := 2#32
  let v1338 : BitVec 32 := Scalar.xori v8 c2_i32_1142
  let c4_i32_1143 : BitVec 32 := 4#32
  let v1339 : BitVec 32 := Scalar.andi v1338 c4_i32_1143
  let c2_i32_1144 : BitVec 32 := 2#32
  let v1340 : BitVec 32 := Scalar.andi v1338 c2_i32_1144
  let v1341 : BitVec 32 := Scalar.ori v1339 v1340
  let c1_i32_1145 : BitVec 32 := 1#32
  let v1342 : BitVec 32 := Scalar.shrsi v1338 c1_i32_1145
  let v1343 : BitVec 32 := Scalar.xori v1338 v1342
  let c1_i32_1146 : BitVec 32 := 1#32
  let v1344 : BitVec 32 := Scalar.andi v1343 c1_i32_1146
  let v1345 : BitVec 32 := Scalar.ori v1341 v1344
  let c1_i32_1149 : BitVec 32 := 1#32
  let v1348 : BitVec 32 := Scalar.muli v1345 c1_i32_1149
  let v1349 : BitVec 32 := Scalar.addi c0_i32_1150 v1348
  v1349.toNat
def k0_dev39 (d0 : Dev nD) : Nat :=
  let c0_i32_1173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1165 : BitVec 32 := 4#32
  let v1364 : BitVec 32 := Scalar.xori v8 c4_i32_1165
  let c4_i32_1166 : BitVec 32 := 4#32
  let v1365 : BitVec 32 := Scalar.andi v1364 c4_i32_1166
  let c2_i32_1167 : BitVec 32 := 2#32
  let v1366 : BitVec 32 := Scalar.andi v1364 c2_i32_1167
  let v1367 : BitVec 32 := Scalar.ori v1365 v1366
  let c1_i32_1168 : BitVec 32 := 1#32
  let v1368 : BitVec 32 := Scalar.shrsi v1364 c1_i32_1168
  let v1369 : BitVec 32 := Scalar.xori v1364 v1368
  let c1_i32_1169 : BitVec 32 := 1#32
  let v1370 : BitVec 32 := Scalar.andi v1369 c1_i32_1169
  let v1371 : BitVec 32 := Scalar.ori v1367 v1370
  let c1_i32_1172 : BitVec 32 := 1#32
  let v1374 : BitVec 32 := Scalar.muli v1371 c1_i32_1172
  let v1375 : BitVec 32 := Scalar.addi c0_i32_1173 v1374
  v1375.toNat
def k0_dev40 (d0 : Dev nD) : Nat :=
  let c0_i32_1290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1280 : BitVec 32 := 2#32
  let v1508 : BitVec 32 := Scalar.xori v8 c2_i32_1280
  let c4_i32_1281 : BitVec 32 := 4#32
  let v1509 : BitVec 32 := Scalar.andi v1508 c4_i32_1281
  let c2_i32_1282 : BitVec 32 := 2#32
  let v1510 : BitVec 32 := Scalar.andi v1508 c2_i32_1282
  let v1511 : BitVec 32 := Scalar.ori v1509 v1510
  let c1_i32_1283 : BitVec 32 := 1#32
  let v1512 : BitVec 32 := Scalar.shrsi v1508 c1_i32_1283
  let v1513 : BitVec 32 := Scalar.xori v1508 v1512
  let c1_i32_1284 : BitVec 32 := 1#32
  let v1514 : BitVec 32 := Scalar.andi v1513 c1_i32_1284
  let v1515 : BitVec 32 := Scalar.ori v1511 v1514
  let c1_i32_1289 : BitVec 32 := 1#32
  let v1516 : BitVec 32 := Scalar.muli v1515 c1_i32_1289
  let v1517 : BitVec 32 := Scalar.addi c0_i32_1290 v1516
  v1517.toNat
def k0_dev41 (d0 : Dev nD) : Nat :=
  let c0_i32_1323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1313 : BitVec 32 := 4#32
  let v1544 : BitVec 32 := Scalar.xori v8 c4_i32_1313
  let c4_i32_1314 : BitVec 32 := 4#32
  let v1545 : BitVec 32 := Scalar.andi v1544 c4_i32_1314
  let c2_i32_1315 : BitVec 32 := 2#32
  let v1546 : BitVec 32 := Scalar.andi v1544 c2_i32_1315
  let v1547 : BitVec 32 := Scalar.ori v1545 v1546
  let c1_i32_1316 : BitVec 32 := 1#32
  let v1548 : BitVec 32 := Scalar.shrsi v1544 c1_i32_1316
  let v1549 : BitVec 32 := Scalar.xori v1544 v1548
  let c1_i32_1317 : BitVec 32 := 1#32
  let v1550 : BitVec 32 := Scalar.andi v1549 c1_i32_1317
  let v1551 : BitVec 32 := Scalar.ori v1547 v1550
  let c1_i32_1322 : BitVec 32 := 1#32
  let v1552 : BitVec 32 := Scalar.muli v1551 c1_i32_1322
  let v1553 : BitVec 32 := Scalar.addi c0_i32_1323 v1552
  v1553.toNat
def k0_dev42 (d0 : Dev nD) : Nat :=
  let c0_i32_1356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1346 : BitVec 32 := 1#32
  let v1580 : BitVec 32 := Scalar.xori v8 c1_i32_1346
  let c4_i32_1347 : BitVec 32 := 4#32
  let v1581 : BitVec 32 := Scalar.andi v1580 c4_i32_1347
  let c2_i32_1348 : BitVec 32 := 2#32
  let v1582 : BitVec 32 := Scalar.andi v1580 c2_i32_1348
  let v1583 : BitVec 32 := Scalar.ori v1581 v1582
  let c1_i32_1349 : BitVec 32 := 1#32
  let v1584 : BitVec 32 := Scalar.shrsi v1580 c1_i32_1349
  let v1585 : BitVec 32 := Scalar.xori v1580 v1584
  let c1_i32_1350 : BitVec 32 := 1#32
  let v1586 : BitVec 32 := Scalar.andi v1585 c1_i32_1350
  let v1587 : BitVec 32 := Scalar.ori v1583 v1586
  let c1_i32_1355 : BitVec 32 := 1#32
  let v1588 : BitVec 32 := Scalar.muli v1587 c1_i32_1355
  let v1589 : BitVec 32 := Scalar.addi c0_i32_1356 v1588
  v1589.toNat
def k0_dev43 (d0 : Dev nD) : Nat :=
  let c0_i32_1389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1379 : BitVec 32 := 2#32
  let v1616 : BitVec 32 := Scalar.xori v8 c2_i32_1379
  let c4_i32_1380 : BitVec 32 := 4#32
  let v1617 : BitVec 32 := Scalar.andi v1616 c4_i32_1380
  let c2_i32_1381 : BitVec 32 := 2#32
  let v1618 : BitVec 32 := Scalar.andi v1616 c2_i32_1381
  let v1619 : BitVec 32 := Scalar.ori v1617 v1618
  let c1_i32_1382 : BitVec 32 := 1#32
  let v1620 : BitVec 32 := Scalar.shrsi v1616 c1_i32_1382
  let v1621 : BitVec 32 := Scalar.xori v1616 v1620
  let c1_i32_1383 : BitVec 32 := 1#32
  let v1622 : BitVec 32 := Scalar.andi v1621 c1_i32_1383
  let v1623 : BitVec 32 := Scalar.ori v1619 v1622
  let c1_i32_1388 : BitVec 32 := 1#32
  let v1624 : BitVec 32 := Scalar.muli v1623 c1_i32_1388
  let v1625 : BitVec 32 := Scalar.addi c0_i32_1389 v1624
  v1625.toNat
def k0_dev44 (d0 : Dev nD) : Nat :=
  let c0_i32_1422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1412 : BitVec 32 := 4#32
  let v1652 : BitVec 32 := Scalar.xori v8 c4_i32_1412
  let c4_i32_1413 : BitVec 32 := 4#32
  let v1653 : BitVec 32 := Scalar.andi v1652 c4_i32_1413
  let c2_i32_1414 : BitVec 32 := 2#32
  let v1654 : BitVec 32 := Scalar.andi v1652 c2_i32_1414
  let v1655 : BitVec 32 := Scalar.ori v1653 v1654
  let c1_i32_1415 : BitVec 32 := 1#32
  let v1656 : BitVec 32 := Scalar.shrsi v1652 c1_i32_1415
  let v1657 : BitVec 32 := Scalar.xori v1652 v1656
  let c1_i32_1416 : BitVec 32 := 1#32
  let v1658 : BitVec 32 := Scalar.andi v1657 c1_i32_1416
  let v1659 : BitVec 32 := Scalar.ori v1655 v1658
  let c1_i32_1421 : BitVec 32 := 1#32
  let v1660 : BitVec 32 := Scalar.muli v1659 c1_i32_1421
  let v1661 : BitVec 32 := Scalar.addi c0_i32_1422 v1660
  v1661.toNat
def k0_dev45 (d0 : Dev nD) : Nat :=
  let c0_i32_1455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1445 : BitVec 32 := 1#32
  let v1688 : BitVec 32 := Scalar.xori v8 c1_i32_1445
  let c4_i32_1446 : BitVec 32 := 4#32
  let v1689 : BitVec 32 := Scalar.andi v1688 c4_i32_1446
  let c2_i32_1447 : BitVec 32 := 2#32
  let v1690 : BitVec 32 := Scalar.andi v1688 c2_i32_1447
  let v1691 : BitVec 32 := Scalar.ori v1689 v1690
  let c1_i32_1448 : BitVec 32 := 1#32
  let v1692 : BitVec 32 := Scalar.shrsi v1688 c1_i32_1448
  let v1693 : BitVec 32 := Scalar.xori v1688 v1692
  let c1_i32_1449 : BitVec 32 := 1#32
  let v1694 : BitVec 32 := Scalar.andi v1693 c1_i32_1449
  let v1695 : BitVec 32 := Scalar.ori v1691 v1694
  let c1_i32_1454 : BitVec 32 := 1#32
  let v1696 : BitVec 32 := Scalar.muli v1695 c1_i32_1454
  let v1697 : BitVec 32 := Scalar.addi c0_i32_1455 v1696
  v1697.toNat
def k0_dev46 (d0 : Dev nD) : Nat :=
  let c0_i32_1482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1474 : BitVec 32 := 4#32
  let v1720 : BitVec 32 := Scalar.xori v8 c4_i32_1474
  let c4_i32_1475 : BitVec 32 := 4#32
  let v1721 : BitVec 32 := Scalar.andi v1720 c4_i32_1475
  let c2_i32_1476 : BitVec 32 := 2#32
  let v1722 : BitVec 32 := Scalar.andi v1720 c2_i32_1476
  let v1723 : BitVec 32 := Scalar.ori v1721 v1722
  let c1_i32_1477 : BitVec 32 := 1#32
  let v1724 : BitVec 32 := Scalar.shrsi v1720 c1_i32_1477
  let v1725 : BitVec 32 := Scalar.xori v1720 v1724
  let c1_i32_1478 : BitVec 32 := 1#32
  let v1726 : BitVec 32 := Scalar.andi v1725 c1_i32_1478
  let v1727 : BitVec 32 := Scalar.ori v1723 v1726
  let c1_i32_1481 : BitVec 32 := 1#32
  let v1730 : BitVec 32 := Scalar.muli v1727 c1_i32_1481
  let v1731 : BitVec 32 := Scalar.addi c0_i32_1482 v1730
  v1731.toNat
def k0_dev47 (d0 : Dev nD) : Nat :=
  let c0_i32_1505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1497 : BitVec 32 := 1#32
  let v1746 : BitVec 32 := Scalar.xori v8 c1_i32_1497
  let c4_i32_1498 : BitVec 32 := 4#32
  let v1747 : BitVec 32 := Scalar.andi v1746 c4_i32_1498
  let c2_i32_1499 : BitVec 32 := 2#32
  let v1748 : BitVec 32 := Scalar.andi v1746 c2_i32_1499
  let v1749 : BitVec 32 := Scalar.ori v1747 v1748
  let c1_i32_1500 : BitVec 32 := 1#32
  let v1750 : BitVec 32 := Scalar.shrsi v1746 c1_i32_1500
  let v1751 : BitVec 32 := Scalar.xori v1746 v1750
  let c1_i32_1501 : BitVec 32 := 1#32
  let v1752 : BitVec 32 := Scalar.andi v1751 c1_i32_1501
  let v1753 : BitVec 32 := Scalar.ori v1749 v1752
  let c1_i32_1504 : BitVec 32 := 1#32
  let v1756 : BitVec 32 := Scalar.muli v1753 c1_i32_1504
  let v1757 : BitVec 32 := Scalar.addi c0_i32_1505 v1756
  v1757.toNat
def k0_dev48 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1520 : BitVec 32 := 2#32
  let v1772 : BitVec 32 := Scalar.xori v8 c2_i32_1520
  let c4_i32_1521 : BitVec 32 := 4#32
  let v1773 : BitVec 32 := Scalar.andi v1772 c4_i32_1521
  let c2_i32_1522 : BitVec 32 := 2#32
  let v1774 : BitVec 32 := Scalar.andi v1772 c2_i32_1522
  let v1775 : BitVec 32 := Scalar.ori v1773 v1774
  let c1_i32_1523 : BitVec 32 := 1#32
  let v1776 : BitVec 32 := Scalar.shrsi v1772 c1_i32_1523
  let v1777 : BitVec 32 := Scalar.xori v1772 v1776
  let c1_i32_1524 : BitVec 32 := 1#32
  let v1778 : BitVec 32 := Scalar.andi v1777 c1_i32_1524
  let v1779 : BitVec 32 := Scalar.ori v1775 v1778
  let c1_i32_1527 : BitVec 32 := 1#32
  let v1782 : BitVec 32 := Scalar.muli v1779 c1_i32_1527
  let v1783 : BitVec 32 := Scalar.addi c0_i32_1528 v1782
  v1783.toNat
def k0_dev49 (d0 : Dev nD) : Nat :=
  let c0_i32_1551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1543 : BitVec 32 := 4#32
  let v1798 : BitVec 32 := Scalar.xori v8 c4_i32_1543
  let c4_i32_1544 : BitVec 32 := 4#32
  let v1799 : BitVec 32 := Scalar.andi v1798 c4_i32_1544
  let c2_i32_1545 : BitVec 32 := 2#32
  let v1800 : BitVec 32 := Scalar.andi v1798 c2_i32_1545
  let v1801 : BitVec 32 := Scalar.ori v1799 v1800
  let c1_i32_1546 : BitVec 32 := 1#32
  let v1802 : BitVec 32 := Scalar.shrsi v1798 c1_i32_1546
  let v1803 : BitVec 32 := Scalar.xori v1798 v1802
  let c1_i32_1547 : BitVec 32 := 1#32
  let v1804 : BitVec 32 := Scalar.andi v1803 c1_i32_1547
  let v1805 : BitVec 32 := Scalar.ori v1801 v1804
  let c1_i32_1550 : BitVec 32 := 1#32
  let v1808 : BitVec 32 := Scalar.muli v1805 c1_i32_1550
  let v1809 : BitVec 32 := Scalar.addi c0_i32_1551 v1808
  v1809.toNat
def k0_dev50 (d0 : Dev nD) : Nat :=
  let c0_i32_1574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1566 : BitVec 32 := 1#32
  let v1824 : BitVec 32 := Scalar.xori v8 c1_i32_1566
  let c4_i32_1567 : BitVec 32 := 4#32
  let v1825 : BitVec 32 := Scalar.andi v1824 c4_i32_1567
  let c2_i32_1568 : BitVec 32 := 2#32
  let v1826 : BitVec 32 := Scalar.andi v1824 c2_i32_1568
  let v1827 : BitVec 32 := Scalar.ori v1825 v1826
  let c1_i32_1569 : BitVec 32 := 1#32
  let v1828 : BitVec 32 := Scalar.shrsi v1824 c1_i32_1569
  let v1829 : BitVec 32 := Scalar.xori v1824 v1828
  let c1_i32_1570 : BitVec 32 := 1#32
  let v1830 : BitVec 32 := Scalar.andi v1829 c1_i32_1570
  let v1831 : BitVec 32 := Scalar.ori v1827 v1830
  let c1_i32_1573 : BitVec 32 := 1#32
  let v1834 : BitVec 32 := Scalar.muli v1831 c1_i32_1573
  let v1835 : BitVec 32 := Scalar.addi c0_i32_1574 v1834
  v1835.toNat
def k0_dev51 (d0 : Dev nD) : Nat :=
  let c0_i32_1597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1589 : BitVec 32 := 2#32
  let v1850 : BitVec 32 := Scalar.xori v8 c2_i32_1589
  let c4_i32_1590 : BitVec 32 := 4#32
  let v1851 : BitVec 32 := Scalar.andi v1850 c4_i32_1590
  let c2_i32_1591 : BitVec 32 := 2#32
  let v1852 : BitVec 32 := Scalar.andi v1850 c2_i32_1591
  let v1853 : BitVec 32 := Scalar.ori v1851 v1852
  let c1_i32_1592 : BitVec 32 := 1#32
  let v1854 : BitVec 32 := Scalar.shrsi v1850 c1_i32_1592
  let v1855 : BitVec 32 := Scalar.xori v1850 v1854
  let c1_i32_1593 : BitVec 32 := 1#32
  let v1856 : BitVec 32 := Scalar.andi v1855 c1_i32_1593
  let v1857 : BitVec 32 := Scalar.ori v1853 v1856
  let c1_i32_1596 : BitVec 32 := 1#32
  let v1860 : BitVec 32 := Scalar.muli v1857 c1_i32_1596
  let v1861 : BitVec 32 := Scalar.addi c0_i32_1597 v1860
  v1861.toNat
def k0_dev52 (d0 : Dev nD) : Nat :=
  let c0_i32_1715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1705 : BitVec 32 := 1#32
  let v1994 : BitVec 32 := Scalar.xori v8 c1_i32_1705
  let c4_i32_1706 : BitVec 32 := 4#32
  let v1995 : BitVec 32 := Scalar.andi v1994 c4_i32_1706
  let c2_i32_1707 : BitVec 32 := 2#32
  let v1996 : BitVec 32 := Scalar.andi v1994 c2_i32_1707
  let v1997 : BitVec 32 := Scalar.ori v1995 v1996
  let c1_i32_1708 : BitVec 32 := 1#32
  let v1998 : BitVec 32 := Scalar.shrsi v1994 c1_i32_1708
  let v1999 : BitVec 32 := Scalar.xori v1994 v1998
  let c1_i32_1709 : BitVec 32 := 1#32
  let v2000 : BitVec 32 := Scalar.andi v1999 c1_i32_1709
  let v2001 : BitVec 32 := Scalar.ori v1997 v2000
  let c1_i32_1714 : BitVec 32 := 1#32
  let v2002 : BitVec 32 := Scalar.muli v2001 c1_i32_1714
  let v2003 : BitVec 32 := Scalar.addi c0_i32_1715 v2002
  v2003.toNat
def k0_dev53 (d0 : Dev nD) : Nat :=
  let c0_i32_1748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1738 : BitVec 32 := 2#32
  let v2030 : BitVec 32 := Scalar.xori v8 c2_i32_1738
  let c4_i32_1739 : BitVec 32 := 4#32
  let v2031 : BitVec 32 := Scalar.andi v2030 c4_i32_1739
  let c2_i32_1740 : BitVec 32 := 2#32
  let v2032 : BitVec 32 := Scalar.andi v2030 c2_i32_1740
  let v2033 : BitVec 32 := Scalar.ori v2031 v2032
  let c1_i32_1741 : BitVec 32 := 1#32
  let v2034 : BitVec 32 := Scalar.shrsi v2030 c1_i32_1741
  let v2035 : BitVec 32 := Scalar.xori v2030 v2034
  let c1_i32_1742 : BitVec 32 := 1#32
  let v2036 : BitVec 32 := Scalar.andi v2035 c1_i32_1742
  let v2037 : BitVec 32 := Scalar.ori v2033 v2036
  let c1_i32_1747 : BitVec 32 := 1#32
  let v2038 : BitVec 32 := Scalar.muli v2037 c1_i32_1747
  let v2039 : BitVec 32 := Scalar.addi c0_i32_1748 v2038
  v2039.toNat
def k0_dev54 (d0 : Dev nD) : Nat :=
  let c0_i32_1781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1771 : BitVec 32 := 4#32
  let v2066 : BitVec 32 := Scalar.xori v8 c4_i32_1771
  let c4_i32_1772 : BitVec 32 := 4#32
  let v2067 : BitVec 32 := Scalar.andi v2066 c4_i32_1772
  let c2_i32_1773 : BitVec 32 := 2#32
  let v2068 : BitVec 32 := Scalar.andi v2066 c2_i32_1773
  let v2069 : BitVec 32 := Scalar.ori v2067 v2068
  let c1_i32_1774 : BitVec 32 := 1#32
  let v2070 : BitVec 32 := Scalar.shrsi v2066 c1_i32_1774
  let v2071 : BitVec 32 := Scalar.xori v2066 v2070
  let c1_i32_1775 : BitVec 32 := 1#32
  let v2072 : BitVec 32 := Scalar.andi v2071 c1_i32_1775
  let v2073 : BitVec 32 := Scalar.ori v2069 v2072
  let c1_i32_1780 : BitVec 32 := 1#32
  let v2074 : BitVec 32 := Scalar.muli v2073 c1_i32_1780
  let v2075 : BitVec 32 := Scalar.addi c0_i32_1781 v2074
  v2075.toNat
def k0_dev55 (d0 : Dev nD) : Nat :=
  let c0_i32_1814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_1804 : BitVec 32 := 1#32
  let v2102 : BitVec 32 := Scalar.xori v8 c1_i32_1804
  let c4_i32_1805 : BitVec 32 := 4#32
  let v2103 : BitVec 32 := Scalar.andi v2102 c4_i32_1805
  let c2_i32_1806 : BitVec 32 := 2#32
  let v2104 : BitVec 32 := Scalar.andi v2102 c2_i32_1806
  let v2105 : BitVec 32 := Scalar.ori v2103 v2104
  let c1_i32_1807 : BitVec 32 := 1#32
  let v2106 : BitVec 32 := Scalar.shrsi v2102 c1_i32_1807
  let v2107 : BitVec 32 := Scalar.xori v2102 v2106
  let c1_i32_1808 : BitVec 32 := 1#32
  let v2108 : BitVec 32 := Scalar.andi v2107 c1_i32_1808
  let v2109 : BitVec 32 := Scalar.ori v2105 v2108
  let c1_i32_1813 : BitVec 32 := 1#32
  let v2110 : BitVec 32 := Scalar.muli v2109 c1_i32_1813
  let v2111 : BitVec 32 := Scalar.addi c0_i32_1814 v2110
  v2111.toNat
def k0_dev56 (d0 : Dev nD) : Nat :=
  let c0_i32_1847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_1837 : BitVec 32 := 2#32
  let v2138 : BitVec 32 := Scalar.xori v8 c2_i32_1837
  let c4_i32_1838 : BitVec 32 := 4#32
  let v2139 : BitVec 32 := Scalar.andi v2138 c4_i32_1838
  let c2_i32_1839 : BitVec 32 := 2#32
  let v2140 : BitVec 32 := Scalar.andi v2138 c2_i32_1839
  let v2141 : BitVec 32 := Scalar.ori v2139 v2140
  let c1_i32_1840 : BitVec 32 := 1#32
  let v2142 : BitVec 32 := Scalar.shrsi v2138 c1_i32_1840
  let v2143 : BitVec 32 := Scalar.xori v2138 v2142
  let c1_i32_1841 : BitVec 32 := 1#32
  let v2144 : BitVec 32 := Scalar.andi v2143 c1_i32_1841
  let v2145 : BitVec 32 := Scalar.ori v2141 v2144
  let c1_i32_1846 : BitVec 32 := 1#32
  let v2146 : BitVec 32 := Scalar.muli v2145 c1_i32_1846
  let v2147 : BitVec 32 := Scalar.addi c0_i32_1847 v2146
  v2147.toNat
def k0_dev57 (d0 : Dev nD) : Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_1870 : BitVec 32 := 4#32
  let v2174 : BitVec 32 := Scalar.xori v8 c4_i32_1870
  let c4_i32_1871 : BitVec 32 := 4#32
  let v2175 : BitVec 32 := Scalar.andi v2174 c4_i32_1871
  let c2_i32_1872 : BitVec 32 := 2#32
  let v2176 : BitVec 32 := Scalar.andi v2174 c2_i32_1872
  let v2177 : BitVec 32 := Scalar.ori v2175 v2176
  let c1_i32_1873 : BitVec 32 := 1#32
  let v2178 : BitVec 32 := Scalar.shrsi v2174 c1_i32_1873
  let v2179 : BitVec 32 := Scalar.xori v2174 v2178
  let c1_i32_1874 : BitVec 32 := 1#32
  let v2180 : BitVec 32 := Scalar.andi v2179 c1_i32_1874
  let v2181 : BitVec 32 := Scalar.ori v2177 v2180
  let c1_i32_1879 : BitVec 32 := 1#32
  let v2182 : BitVec 32 := Scalar.muli v2181 c1_i32_1879
  let v2183 : BitVec 32 := Scalar.addi c0_i32_1880 v2182
  v2183.toNat
def k0_dev58 (d0 : Dev nD) : Nat :=
  let c0_i32_2087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_2077 : BitVec 32 := 4#32
  let v2408 : BitVec 32 := Scalar.xori v8 c4_i32_2077
  let c4_i32_2078 : BitVec 32 := 4#32
  let v2409 : BitVec 32 := Scalar.andi v2408 c4_i32_2078
  let c2_i32_2079 : BitVec 32 := 2#32
  let v2410 : BitVec 32 := Scalar.andi v2408 c2_i32_2079
  let v2411 : BitVec 32 := Scalar.ori v2409 v2410
  let c1_i32_2080 : BitVec 32 := 1#32
  let v2412 : BitVec 32 := Scalar.shrsi v2408 c1_i32_2080
  let v2413 : BitVec 32 := Scalar.xori v2408 v2412
  let c1_i32_2081 : BitVec 32 := 1#32
  let v2414 : BitVec 32 := Scalar.andi v2413 c1_i32_2081
  let v2415 : BitVec 32 := Scalar.ori v2411 v2414
  let c1_i32_2086 : BitVec 32 := 1#32
  let v2416 : BitVec 32 := Scalar.muli v2415 c1_i32_2086
  let v2417 : BitVec 32 := Scalar.addi c0_i32_2087 v2416
  v2417.toNat
def k0_dev59 (d0 : Dev nD) : Nat :=
  let c0_i32_2120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_2110 : BitVec 32 := 1#32
  let v2444 : BitVec 32 := Scalar.xori v8 c1_i32_2110
  let c4_i32_2111 : BitVec 32 := 4#32
  let v2445 : BitVec 32 := Scalar.andi v2444 c4_i32_2111
  let c2_i32_2112 : BitVec 32 := 2#32
  let v2446 : BitVec 32 := Scalar.andi v2444 c2_i32_2112
  let v2447 : BitVec 32 := Scalar.ori v2445 v2446
  let c1_i32_2113 : BitVec 32 := 1#32
  let v2448 : BitVec 32 := Scalar.shrsi v2444 c1_i32_2113
  let v2449 : BitVec 32 := Scalar.xori v2444 v2448
  let c1_i32_2114 : BitVec 32 := 1#32
  let v2450 : BitVec 32 := Scalar.andi v2449 c1_i32_2114
  let v2451 : BitVec 32 := Scalar.ori v2447 v2450
  let c1_i32_2119 : BitVec 32 := 1#32
  let v2452 : BitVec 32 := Scalar.muli v2451 c1_i32_2119
  let v2453 : BitVec 32 := Scalar.addi c0_i32_2120 v2452
  v2453.toNat
def k0_dev60 (d0 : Dev nD) : Nat :=
  let c0_i32_2153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_2143 : BitVec 32 := 2#32
  let v2480 : BitVec 32 := Scalar.xori v8 c2_i32_2143
  let c4_i32_2144 : BitVec 32 := 4#32
  let v2481 : BitVec 32 := Scalar.andi v2480 c4_i32_2144
  let c2_i32_2145 : BitVec 32 := 2#32
  let v2482 : BitVec 32 := Scalar.andi v2480 c2_i32_2145
  let v2483 : BitVec 32 := Scalar.ori v2481 v2482
  let c1_i32_2146 : BitVec 32 := 1#32
  let v2484 : BitVec 32 := Scalar.shrsi v2480 c1_i32_2146
  let v2485 : BitVec 32 := Scalar.xori v2480 v2484
  let c1_i32_2147 : BitVec 32 := 1#32
  let v2486 : BitVec 32 := Scalar.andi v2485 c1_i32_2147
  let v2487 : BitVec 32 := Scalar.ori v2483 v2486
  let c1_i32_2152 : BitVec 32 := 1#32
  let v2488 : BitVec 32 := Scalar.muli v2487 c1_i32_2152
  let v2489 : BitVec 32 := Scalar.addi c0_i32_2153 v2488
  v2489.toNat
def k0_dev61 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c4_i32_2176 : BitVec 32 := 4#32
  let v2516 : BitVec 32 := Scalar.xori v8 c4_i32_2176
  let c4_i32_2177 : BitVec 32 := 4#32
  let v2517 : BitVec 32 := Scalar.andi v2516 c4_i32_2177
  let c2_i32_2178 : BitVec 32 := 2#32
  let v2518 : BitVec 32 := Scalar.andi v2516 c2_i32_2178
  let v2519 : BitVec 32 := Scalar.ori v2517 v2518
  let c1_i32_2179 : BitVec 32 := 1#32
  let v2520 : BitVec 32 := Scalar.shrsi v2516 c1_i32_2179
  let v2521 : BitVec 32 := Scalar.xori v2516 v2520
  let c1_i32_2180 : BitVec 32 := 1#32
  let v2522 : BitVec 32 := Scalar.andi v2521 c1_i32_2180
  let v2523 : BitVec 32 := Scalar.ori v2519 v2522
  let c1_i32_2185 : BitVec 32 := 1#32
  let v2524 : BitVec 32 := Scalar.muli v2523 c1_i32_2185
  let v2525 : BitVec 32 := Scalar.addi c0_i32_2186 v2524
  v2525.toNat
def k0_dev62 (d0 : Dev nD) : Nat :=
  let c0_i32_2219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c1_i32_2209 : BitVec 32 := 1#32
  let v2552 : BitVec 32 := Scalar.xori v8 c1_i32_2209
  let c4_i32_2210 : BitVec 32 := 4#32
  let v2553 : BitVec 32 := Scalar.andi v2552 c4_i32_2210
  let c2_i32_2211 : BitVec 32 := 2#32
  let v2554 : BitVec 32 := Scalar.andi v2552 c2_i32_2211
  let v2555 : BitVec 32 := Scalar.ori v2553 v2554
  let c1_i32_2212 : BitVec 32 := 1#32
  let v2556 : BitVec 32 := Scalar.shrsi v2552 c1_i32_2212
  let v2557 : BitVec 32 := Scalar.xori v2552 v2556
  let c1_i32_2213 : BitVec 32 := 1#32
  let v2558 : BitVec 32 := Scalar.andi v2557 c1_i32_2213
  let v2559 : BitVec 32 := Scalar.ori v2555 v2558
  let c1_i32_2218 : BitVec 32 := 1#32
  let v2560 : BitVec 32 := Scalar.muli v2559 c1_i32_2218
  let v2561 : BitVec 32 := Scalar.addi c0_i32_2219 v2560
  v2561.toNat
def k0_dev63 (d0 : Dev nD) : Nat :=
  let c0_i32_2252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c1_i32_0 : BitVec 32 := 1#32
  let v5 : BitVec 32 := Scalar.shrsi v2 c1_i32_0
  let c1_i32_1 : BitVec 32 := 1#32
  let v6 : BitVec 32 := Scalar.andi v5 c1_i32_1
  let v7 : BitVec 32 := Scalar.xori v4 v6
  let v8 : BitVec 32 := Scalar.ori v3 v7
  let c2_i32_2242 : BitVec 32 := 2#32
  let v2588 : BitVec 32 := Scalar.xori v8 c2_i32_2242
  let c4_i32_2243 : BitVec 32 := 4#32
  let v2589 : BitVec 32 := Scalar.andi v2588 c4_i32_2243
  let c2_i32_2244 : BitVec 32 := 2#32
  let v2590 : BitVec 32 := Scalar.andi v2588 c2_i32_2244
  let v2591 : BitVec 32 := Scalar.ori v2589 v2590
  let c1_i32_2245 : BitVec 32 := 1#32
  let v2592 : BitVec 32 := Scalar.shrsi v2588 c1_i32_2245
  let v2593 : BitVec 32 := Scalar.xori v2588 v2592
  let c1_i32_2246 : BitVec 32 := 1#32
  let v2594 : BitVec 32 := Scalar.andi v2593 c1_i32_2246
  let v2595 : BitVec 32 := Scalar.ori v2591 v2594
  let c1_i32_2251 : BitVec 32 := 1#32
  let v2596 : BitVec 32 := Scalar.muli v2595 c1_i32_2251
  let v2597 : BitVec 32 := Scalar.addi c0_i32_2252 v2596
  v2597.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Kernel.Program.lean ====
/-
  The printed body is the program that the list of steps denotes.
-/
module

public import proofs.«01_k».proof.Proof.Kernel.Ops

@[expose] public section
noncomputable section
namespace Cert.Kernel.Gather
open Cert.Kernel Cert.Kernel.Gen
open Idealize.ShloMosaic Idealize.ShloMosaic.TcCoe
open Idealize.SL Idealize.SL.Sem
variable {F : FTy → Type} [FloatOps F]

set_option maxHeartbeats 40000000 in
set_option maxRecDepth 100000 in
theorem body_eq : cc0_body (F := F) xM (Memref.isWhole_whole _) wM (Memref.isWhole_whole _) oM (Memref.isWhole_whole _)
    (Memref.whole cc0_scratch0) (Memref.isWhole_whole _) cc0_scratch1 cc0_scratch2 cc0_scratch3 (Memref.whole cc0_scratch4) (Memref.isWhole_whole _) cc0_scratch5 cc0_scratch6 cc0_scratch7
    (Memref.whole cc0_scratch8) (Memref.isWhole_whole _) cc0_scratch9 cc0_scratch10 cc0_scratch11 (Memref.whole cc0_scratch12) (Memref.isWhole_whole _) cc0_scratch13 cc0_scratch14 cc0_scratch15
    (Memref.whole cc0_scratch16) (Memref.isWhole_whole _) cc0_scratch17 cc0_scratch18 cc0_scratch19 (Memref.whole cc0_scratch20) (Memref.isWhole_whole _) cc0_scratch21 cc0_scratch22 cc0_scratch23
      = .op .deviceId body := by
  rw [cc0_body_eq_skeleton]
  rfl

end Cert.Kernel.Gather
-- ==== Proof.KernelIdeal.Ops.lean ====
/-
  The kernel's own program as data: the six paths, the seven steps of each, the views and semaphores that a step names, and the list of
  steps whose denotation is the printed body.

  Path `i` moves the rows `row0 i … row0 i + nrows i` of every device's block of `x`. In step `t` it exchanges one such window with the
  partner `peer i t c`, into slot `t % 4` of the path's buffer. After step `t` that slot holds the window of device `orig i t c`.
-/
module

public import proofs.«01_k».proof.Proof.Gen.KernelIdeal.Skeleton
public import proofs.«01_k».proof.Proof.Gen.KernelIdeal.Points

@[expose] public section
noncomputable section
namespace Cert.KernelIdeal.Gather
open Cert.KernelIdeal Cert.KernelIdeal.Gen
open Idealize.ShloMosaic Idealize.ShloMosaic.TcCoe
open Idealize.SL Idealize.SL.Sem
variable {F : FTy → Type} [FloatOps F]

/-! ## Paths, steps, devices -/

/-- The rows of path `i`. -/
def nrows : Fin 6 → ℕ := ![88, 88, 88, 88, 80, 80]
/-- The first row of path `i`'s window. -/
def row0 : Fin 6 → ℕ := ![0, 176, 344, 88, 264, 432]

abbrev Srow (i : Fin 6) : Shape := ⟨2, ![nrows i, 4096]⟩
abbrev S1row (i : Fin 6) : Shape := ⟨3, ![1, nrows i, 4096]⟩
abbrev Sbuf (i : Fin 6) : Shape := ⟨3, ![4, nrows i, 4096]⟩
abbrev Sout (i : Fin 6) : Shape := ⟨2, ![nrows i, 256]⟩

/-- The slot that step `t` fills. -/
def slot (t : Fin 7) : Fin 4 := ⟨t.val % 4, Nat.mod_lt _ (by decide)⟩
/-- The step before (step 0's is itself, unused). -/
def prev (t : Fin 7) : Fin 7 := ⟨t.val - 1, by omega⟩

/-- The device that device `c` starts step `t` of path `i` towards, as printed. -/
def devStart : Fin 6 → Fin 7 → Dev nD → Dev nD :=
  ![![fun d => ⟨k0_dev4 d, k0_dev4_lt d⟩, fun d => ⟨k0_dev10 d, k0_dev10_lt d⟩, fun d => ⟨k0_dev16 d, k0_dev16_lt d⟩, fun d => ⟨k0_dev28 d, k0_dev28_lt d⟩,
      fun d => ⟨k0_dev40 d, k0_dev40_lt d⟩, fun d => ⟨k0_dev52 d, k0_dev52_lt d⟩, fun d => ⟨k0_dev58 d, k0_dev58_lt d⟩],
    ![fun d => ⟨k0_dev5 d, k0_dev5_lt d⟩, fun d => ⟨k0_dev11 d, k0_dev11_lt d⟩, fun d => ⟨k0_dev17 d, k0_dev17_lt d⟩, fun d => ⟨k0_dev29 d, k0_dev29_lt d⟩,
      fun d => ⟨k0_dev41 d, k0_dev41_lt d⟩, fun d => ⟨k0_dev53 d, k0_dev53_lt d⟩, fun d => ⟨k0_dev59 d, k0_dev59_lt d⟩],
    ![fun d => ⟨k0_dev6 d, k0_dev6_lt d⟩, fun d => ⟨k0_dev12 d, k0_dev12_lt d⟩, fun d => ⟨k0_dev18 d, k0_dev18_lt d⟩, fun d => ⟨k0_dev30 d, k0_dev30_lt d⟩,
      fun d => ⟨k0_dev42 d, k0_dev42_lt d⟩, fun d => ⟨k0_dev54 d, k0_dev54_lt d⟩, fun d => ⟨k0_dev60 d, k0_dev60_lt d⟩],
    ![fun d => ⟨k0_dev7 d, k0_dev7_lt d⟩, fun d => ⟨k0_dev13 d, k0_dev13_lt d⟩, fun d => ⟨k0_dev19 d, k0_dev19_lt d⟩, fun d => ⟨k0_dev31 d, k0_dev31_lt d⟩,
      fun d => ⟨k0_dev43 d, k0_dev43_lt d⟩, fun d => ⟨k0_dev55 d, k0_dev55_lt d⟩, fun d => ⟨k0_dev61 d, k0_dev61_lt d⟩],
    ![fun d => ⟨k0_dev8 d, k0_dev8_lt d⟩, fun d => ⟨k0_dev14 d, k0_dev14_lt d⟩, fun d => ⟨k0_dev20 d, k0_dev20_lt d⟩, fun d => ⟨k0_dev32 d, k0_dev32_lt d⟩,
      fun d => ⟨k0_dev44 d, k0_dev44_lt d⟩, fun d => ⟨k0_dev56 d, k0_dev56_lt d⟩, fun d => ⟨k0_dev62 d, k0_dev62_lt d⟩],
    ![fun d => ⟨k0_dev9 d, k0_dev9_lt d⟩, fun d => ⟨k0_dev15 d, k0_dev15_lt d⟩, fun d => ⟨k0_dev21 d, k0_dev21_lt d⟩, fun d => ⟨k0_dev33 d, k0_dev33_lt d⟩,
      fun d => ⟨k0_dev45 d, k0_dev45_lt d⟩, fun d => ⟨k0_dev57 d, k0_dev57_lt d⟩, fun d => ⟨k0_dev63 d, k0_dev63_lt d⟩]]

/-- The device that device `c` signals in step `t` (1, 2 or 3) of path `i`, as printed. -/
def devSig : Fin 6 → Fin 7 → Dev nD → Dev nD :=
  ![![id, fun d => ⟨k0_dev22 d, k0_dev22_lt d⟩, fun d => ⟨k0_dev34 d, k0_dev34_lt d⟩, fun d => ⟨k0_dev46 d, k0_dev46_lt d⟩, id, id, id],
    ![id, fun d => ⟨k0_dev23 d, k0_dev23_lt d⟩, fun d => ⟨k0_dev35 d, k0_dev35_lt d⟩, fun d => ⟨k0_dev47 d, k0_dev47_lt d⟩, id, id, id],
    ![id, fun d => ⟨k0_dev24 d, k0_dev24_lt d⟩, fun d => ⟨k0_dev36 d, k0_dev36_lt d⟩, fun d => ⟨k0_dev48 d, k0_dev48_lt d⟩, id, id, id],
    ![id, fun d => ⟨k0_dev25 d, k0_dev25_lt d⟩, fun d => ⟨k0_dev37 d, k0_dev37_lt d⟩, fun d => ⟨k0_dev49 d, k0_dev49_lt d⟩, id, id, id],
    ![id, fun d => ⟨k0_dev26 d, k0_dev26_lt d⟩, fun d => ⟨k0_dev38 d, k0_dev38_lt d⟩, fun d => ⟨k0_dev50 d, k0_dev50_lt d⟩, id, id, id],
    ![id, fun d => ⟨k0_dev27 d, k0_dev27_lt d⟩, fun d => ⟨k0_dev39 d, k0_dev39_lt d⟩, fun d => ⟨k0_dev51 d, k0_dev51_lt d⟩, id, id, id]]

/-! ## Views and semaphores -/

abbrev xM : Memref sig .tc .vmem S512x4096 .f32 := Memref.whole cc0_stg0_0
abbrev wM : Memref sig .tc .vmem S4096x256 .f32 := Memref.whole cc0_stg1_0
abbrev oM : Memref sig .tc .vmem S4096x256 .f32 := Memref.whole cc0_stg2_0

/-- Path `i`'s buffer of four slots. -/
def bufM : (i : Fin 6) → Memref sig .tc .vmem (Sbuf i) .f32
  | 0 => Memref.whole cc0_scratch0 | 1 => Memref.whole cc0_scratch4 | 2 => Memref.whole cc0_scratch8
  | 3 => Memref.whole cc0_scratch12 | 4 => Memref.whole cc0_scratch16 | 5 => Memref.whole cc0_scratch20

theorem inb_slot (i : Fin 6) (s : Fin 4) : ∀ a, (![s.val, 0, 0] : Fin 3 → ℕ) a + (S1row i).size a ≤ (Sbuf i).size a := by
  revert i s; decide +kernel
theorem inb_rows (i : Fin 6) : ∀ a, (![row0 i, 0] : Fin 2 → ℕ) a + (Srow i).size a ≤ S512x4096.size a := by
  revert i; decide +kernel
theorem squeezes_slot (i : Fin 6) : (S1row i).Squeezes (Srow i) := by
  revert i; decide +kernel
theorem inb_sem (s : Fin 4) : ∀ a, (![s.val] : Fin 1 → ℕ) a + S1.size a ≤ S4.size a := by
  revert s; decide +kernel

/-- Slot `s` of path `i`'s buffer as a box of it. -/
abbrev slotR (i : Fin 6) (s : Fin 4) : Rect (Sbuf i) := Rect.unit (s := Sbuf i) ![s.val, 0, 0] (S1row i).size (inb_slot i s)
/-- Slot `s` of path `i`'s buffer. -/
def slotM (i : Fin 6) (s : Fin 4) : Memref sig .tc .vmem (Srow i) .f32 :=
  ((bufM i).slice (slotR i s) (fun _ => rfl)).squeeze (Srow i) (squeezes_slot i)
/-- Path `i`'s rows of the device's own block of `x`. -/
def rowsM (i : Fin 6) : Memref sig .tc .vmem (Srow i) .f32 :=
  xM.slice (Rect.unit (s := S512x4096) ![row0 i, 0] (Srow i).size (inb_rows i)) (fun _ => rfl)
/-- Where step `t` of path `i` copies from: the rows of `x` in step 0, the slot that the step before filled otherwise. -/
def srcM (i : Fin 6) : Fin 7 → Memref sig .tc .vmem (Srow i) .f32
  | ⟨0, _⟩ => rowsM i
  | ⟨k + 1, h⟩ => slotM i (slot ⟨k, Nat.lt_of_succ_lt h⟩)

def sendA : Fin 6 → DmaSems sig S4 := ![cc0_scratch1, cc0_scratch5, cc0_scratch9, cc0_scratch13, cc0_scratch17, cc0_scratch21]
def recvA : Fin 6 → DmaSems sig S4 := ![cc0_scratch2, cc0_scratch6, cc0_scratch10, cc0_scratch14, cc0_scratch18, cc0_scratch22]
def credA : Fin 6 → Sems sig S4 := ![cc0_scratch3, cc0_scratch7, cc0_scratch11, cc0_scratch15, cc0_scratch19, cc0_scratch23]

def sendS (i : Fin 6) (s : Fin 4) : DmaSem sig := (((sendA i).slice (Rect.unit (s := S4) ![s.val] S1.size (inb_sem s))).squeeze S_ squeezes_S1_S_).sem
def recvS (i : Fin 6) (s : Fin 4) : DmaSem sig := (((recvA i).slice (Rect.unit (s := S4) ![s.val] S1.size (inb_sem s))).squeeze S_ squeezes_S1_S_).sem
def credS (i : Fin 6) (s : Fin 4) : Sem sig := (((credA i).slice (Rect.unit (s := S4) ![s.val] S1.size (inb_sem s))).squeeze S_ squeezes_S1_S_).sem
abbrev barS : Sem sig := (SemArray.scalar (sig.barrier 0 rfl) : Sems sig S_).sem

theorem wordExact_slot (i : Fin 6) (s : Fin 4) : (slotM i s).view.WordExact := (View.wordExact_bits rfl).reshape _ _
theorem wordExact_src (i : Fin 6) (t : Fin 7) : (srcM i t).view.WordExact := by
  unfold srcM; split
  · exact View.wordExact_bits rfl
  · exact wordExact_slot _ _

/-! ## The blocks of the result -/

/-- The number that a step's block differs by from the device's own, in the ring order of devices. -/
def pfx : Fin 6 → Fin 7 → ℕ :=
  ![![2, 3, 7, 6, 4, 5, 1], ![4, 6, 7, 5, 1, 3, 2], ![1, 5, 7, 3, 2, 6, 4], ![2, 3, 7, 6, 4, 5, 1], ![4, 6, 7, 5, 1, 3, 2], ![1, 5, 7, 3, 2, 6, 4]]
/-- Where step `t`'s block of the result starts, as printed. -/
def off (i : Fin 6) (t : Fin 7) (d : Dev nD) : Fin 2 → ℕ :=
  match i with
  | 0 | 1 | 2 | 3 => k0_off2 d (BitVec.ofNat 32 (pfx i t)) (BitVec.ofNat 32 (row0 i))
  | 4 | 5 => k0_off3 d (BitVec.ofNat 32 (pfx i t)) (BitVec.ofNat 32 (row0 i))
theorem inb_off (i : Fin 6) (t : Fin 7) (d : Dev nD) : ∀ a, off i t d a + (Sout i).size a ≤ S4096x256.size a := by
  revert i t d; decide +kernel

/-- The multiplication of step `t`'s block. -/
def dotD : (i : Fin 6) → DotDims (Srow i) S4096x256 (Sout i)
  | 0 | 1 | 2 | 3 => dot_S88x4096_S4096x256_S88x256_1_0_0_1_n_n
  | 4 | 5 => dot_S80x4096_S4096x256_S80x256_1_0_0_1_n_n

theorem casts_row (i : Fin 6) : (S1row i).ShapeCasts (Srow i) := by
  revert i; decide +kernel

/-- What a step stores: the positive part of the slot times `w`. -/
def pay (i : Fin 6) (v : Vec F (S1row i) .f32) (v' : Vec F S4096x256 .f32) : FVec F (Sout i) .f32 :=
  maximumf (matmul (dotD i) none (shapeCast (Srow i) v (casts_row i)) (shapeCast S4096x256 v' shapeCasts_S4096x256_S4096x256)
    (constant (Sout i) .f32 0x00000000#32)) (broadcast (Sout i) (Scalar.ofBits .f32 0x00000000#32))

/-! ## The steps -/

/-- One step of a path. -/
inductive LOp where
  /-- start step `t`'s copy -/
  | start (t : Fin 7)
  /-- wait for step `t`'s window to arrive -/
  | wrecv (t : Fin 7)
  /-- wait for the partner's leave to overwrite its slot in step `t` -/
  | wcred (t : Fin 7)
  /-- wait for step `t`'s copy to have left -/
  | wsend (t : Fin 7)
  /-- give step `t + 3`'s partner leave to overwrite the slot that step `t` copied from -/
  | sig (t : Fin 7)
  /-- multiply step `t`'s window by `w` and store it -/
  | gemm (t : Fin 7)
  deriving DecidableEq

abbrev Prg (F : FTy → Type) [FloatOps F] := Prog (TpuEff nD τ sig (Elt F) Λ₀ .tc) PUnit

theorem numel_row (i : Fin 6) : 0 < (S1row i).numel := by revert i; decide +kernel
theorem numel_out (i : Fin 6) : 0 < (Sout i).numel := by revert i; decide +kernel

theorem typed_dma (s' r' : DmaSem sig) (i : Fin 6) (s : Fin 4) (n : Dev nD) : DmaTarget.Typed (nD := nD) (τ := τ) (p := .tc) .vmem (.dma r') (.remote (Dev.tc n : Thread nD τ) (slotM i s) (.dma s')) := ⟨⟨rfl, Or.inl rfl⟩, trivial⟩

/-- The effects of one step of path `i` on device `c`, then `K`. -/
def eff (c : Dev nD) (i : Fin 6) (o : LOp) (K : Prg F) : Prg F := match o with
  | .start t => .op (.enqueueDma (srcM i t) (.remote (Dev.tc (devStart i t c)) (slotM i (slot t)) (.dma (sendS i (slot t)))) (.dma (recvS i (slot t)))
      (wordExact_src i t) (wordExact_slot i _) (typed_dma _ _ _ _ _)) fun _ => K
  | .wrecv t => .op (.waitDma2 (recvS i (slot t)) (srcM i t) (slotM i (slot t)) (wordExact_src i t) (wordExact_slot i _)) fun _ => K
  | .wcred t => .op (.semWait (credS i (slot t)) (1#32).toInt) fun _ => K
  | .wsend t => .op (.waitDma2 (sendS i (slot t)) (slotM i (slot t)) (srcM i t) (wordExact_slot i _) (wordExact_src i t)) fun _ => K
  | .sig t => .op (.semSignal (devSig i t c, .tc) (credS i (slot (prev t))) (1#32).toInt) fun _ => K
  | .gemm t =>
    .op (.load (bufM i) (slotR i (slot t)).toLoadRect (View.loadsAt_vmem (numel_row i))) fun v =>
    .op (.load wM (Rect.unit (s := S4096x256) ![0, 0] S4096x256.size inb_S4096x256_S4096x256_0_0).toLoadRect (View.loadsAt_vmem h_S4096x256)) fun v' =>
    .op (.load oM (Rect.unit (s := S4096x256) (off i t c) (Sout i).size (inb_off i t c)).toLoadRect (View.loadsAt_vmem (numel_out i))) fun _ =>
    .op (.store oM (Rect.unit (s := S4096x256) (off i t c) (Sout i).size (inb_off i t c)) (pay i v v') Finset.univ
      (View.stores_vmem_bits_univ (numel_out i) rfl) (.inl rfl)) fun _ => K

/-- The steps of a list, one after another. -/
def run (c : Dev nD) : List (Fin 6 × LOp) → Prg F → Prg F
  | [], K => K
  | (i, o) :: l, K => eff c i o (run c l K)

def paths : List (Fin 6) := [0, 1, 2, 3, 4, 5]

/-- What path `i` does first in iteration `t`: take step `t`'s window and send it on (in the last iteration there is nowhere to send it). -/
def phase1 (t : Fin 7) : List LOp :=
  .wrecv t :: (if h : t.val < 6 then (if 3 ≤ t.val then [.wcred ⟨t.val + 1, by omega⟩] else []) ++ [.start ⟨t.val + 1, by omega⟩] else [.gemm t])
/-- What path `i` does second in iteration `t`: see that step `t`'s copy has left, and pass the slot it was in to whoever writes it next. -/
def phase2 (t : Fin 7) : List LOp := .wsend t :: (if 1 ≤ t.val ∧ t.val ≤ 3 then [.sig t] else [])
/-- What path `i` does last in iteration `t`. -/
def phase3 (t : Fin 7) : List LOp := if t.val < 6 then [.gemm t] else []
/-- All paths' steps of one iteration. -/
def iter (t : Fin 7) : List (Fin 6 × LOp) :=
  paths.flatMap (fun i => (phase1 t).map (Prod.mk i)) ++ paths.flatMap (fun i => (phase2 t).map (Prod.mk i)) ++ paths.flatMap (fun i => (phase3 t).map (Prod.mk i))

/-- The first copies, before the device multiplies its own rows. -/
def starts : List (Fin 6 × LOp) := paths.map fun i => (i, .start 0)
def iters : List (Fin 6 × LOp) := [0, 1, 2, 3, 4, 5, 6].flatMap iter

/-- The device's own rows times its `w`. -/
def ownRows (c : Dev nD) (K : Prg F) : Prg F :=
  .op (.load xM (Rect.unit (s := S512x4096) ![0, 0] S512x4096.size inb_S512x4096_S512x4096_0_0).toLoadRect (View.loadsAt_vmem h_S512x4096)) fun v =>
  .op (.load wM (Rect.unit (s := S4096x256) ![0, 0] S4096x256.size inb_S4096x256_S4096x256_0_0).toLoadRect (View.loadsAt_vmem h_S4096x256)) fun v' =>
  .op (.load oM (Rect.unit (s := S4096x256) (k0_off1 c) S512x256.size (k0_off1_inb c)).toLoadRect (View.loadsAt_vmem h_S512x256)) fun _ =>
  .op (.store oM (Rect.unit (s := S4096x256) (k0_off1 c) S512x256.size (k0_off1_inb c)) (k0_pay1 v v') Finset.univ
    (View.stores_vmem_bits_univ h_S512x256 rfl) (.inl rfl)) fun _ => K

/-- The entry barrier with the three neighbours. -/
def barrier (c : Dev nD) (K : Prg F) : Prg F :=
  .op (.semSignal ((⟨k0_dev1 c, k0_dev1_lt c⟩ : Dev nD), .tc) barS (1#32).toInt) fun _ =>
  .op (.semSignal ((⟨k0_dev2 c, k0_dev2_lt c⟩ : Dev nD), .tc) barS (1#32).toInt) fun _ =>
  .op (.semSignal ((⟨k0_dev3 c, k0_dev3_lt c⟩ : Dev nD), .tc) barS (1#32).toInt) fun _ =>
  .op (.semWait barS (3#32).toInt) fun _ => K

/-- The whole body on device `c`. -/
def body (c : Dev nD) : Prg F := barrier c (run c starts (ownRows c (run c iters (.ret ⟨⟩))))

end Cert.KernelIdeal.Gather
-- ==== Proof.KernelIdeal.Devices.lean ====
/-
  The eight devices as a cube: the partner of a step differs in one bit of a device's place in the ring order, and the window that a step
  delivers comes from the device that differs by the step's number.
-/
module

public import proofs.«01_k».proof.Proof.KernelIdeal.Ops

@[expose] public section
noncomputable section
namespace Cert.KernelIdeal.Gather
open Cert.KernelIdeal Cert.KernelIdeal.Gen
open Idealize.ShloMosaic Idealize.ShloMosaic.TcCoe

/-- A device's place in the ring order, and the device at a place (the table is its own inverse). -/
def ring : Fin 8 → Fin 8 := ![0, 1, 3, 2, 4, 5, 7, 6]
/-- The neighbour of `c` across bit `b`. -/
def nb (b : Fin 3) (c : Dev nD) : Dev nD := ring (Fin.ofNat 8 ((ring c).val ^^^ 2 ^ b.val))
/-- The bit across which path `i` exchanges slot `s`. -/
def bit : Fin 6 → Fin 4 → Fin 3 :=
  ![![1, 0, 2, 0], ![2, 1, 0, 1], ![0, 2, 1, 2], ![1, 0, 2, 0], ![2, 1, 0, 1], ![0, 2, 1, 2]]
/-- The partner of `c` in step `t` of path `i`. -/
def peer (i : Fin 6) (t : Fin 7) (c : Dev nD) : Dev nD := nb (bit i (slot t)) c
/-- The device whose window `c` holds after step `t` of path `i`. -/
def orig (i : Fin 6) (t : Fin 7) (c : Dev nD) : Dev nD := ring (Fin.ofNat 8 ((ring c).val ^^^ pfx i t))

theorem nb_nb (b : Fin 3) (c : Dev nD) : nb b (nb b c) = c := by revert b c; decide +kernel
theorem peer_peer (i : Fin 6) (t : Fin 7) (c : Dev nD) : peer i t (peer i t c) = c := nb_nb _ _
/-- A neighbour exchange as a permutation of the devices. -/
def nbE (b : Fin 3) : Dev nD ≃ Dev nD := ⟨nb b, nb b, nb_nb b, nb_nb b⟩

theorem devStart_eq (i : Fin 6) (t : Fin 7) (c : Dev nD) : devStart i t c = peer i t c := by revert i t c; decide +kernel
theorem devSig_eq (i : Fin 6) (t : Fin 7) (c : Dev nD) (h : 1 ≤ t.val ∧ t.val ≤ 3) : devSig i t c = peer i (t + 3) c := by
  revert i t c; decide +kernel
theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel

theorem orig_zero (i : Fin 6) (c : Dev nD) (h : 0 < 7) : orig i ⟨0, h⟩ (peer i ⟨0, h⟩ c) = c := by
  have : ∀ (i : Fin 6) (c : Dev nD), orig i 0 (peer i 0 c) = c := by decide +kernel
  exact this i c
theorem orig_succ (i : Fin 6) (k : ℕ) (h : k + 1 < 7) (c : Dev nD) : orig i ⟨k + 1, h⟩ (peer i ⟨k + 1, h⟩ c) = orig i ⟨k, Nat.lt_of_succ_lt h⟩ c := by
  have : ∀ (i : Fin 6) (t : Fin 7) (c : Dev nD), 1 ≤ t.val → orig i t (peer i t c) = orig i (prev t) c := by decide +kernel
  exact this i ⟨k + 1, h⟩ c (Nat.le_add_left 1 k)

/-- Where the blocks of the result start. -/
theorem off_eq (i : Fin 6) (t : Fin 7) (c : Dev nD) : off i t c = ![512 * (orig i t c).val + row0 i, 0] := by revert i t c; decide +kernel
theorem off1_eq (c : Dev nD) : k0_off1 c = ![512 * c.val, 0] := by revert c; decide +kernel
/-- No window comes from the device itself, and every other device's comes. -/
theorem orig_ne (i : Fin 6) (t : Fin 7) (c : Dev nD) : orig i t c ≠ c := by revert i t c; decide +kernel
theorem orig_inj (i : Fin 6) (t t' : Fin 7) (c : Dev nD) (h : orig i t c = orig i t' c) : t = t' := by revert i t t' c; decide +kernel
theorem orig_surj (i : Fin 6) (c d : Dev nD) (h : d ≠ c) : ∃ t, orig i t c = d := by revert i c d; decide +kernel

end Cert.KernelIdeal.Gather
-- ==== Proof.KernelIdeal.Protocol.lean ====
/-
  The protocol. Every device has one barrier cell and, for each path and each slot, a send cell, a receive cell and a leave cell.

  * The barrier cell of `c` has one round of three duties. The neighbour across bit `b` pays duty `b`: it hands `c` the slots of its own
    buffers that are exchanged across bit `b`.
  * The receive cell of a slot has a round for each step that fills the slot. The step's partner pays it by its copy, and hands over the slot
    holding the window that the step delivers.
  * The send cell of a slot has the same rounds. The device pays them by its own copies, and gets back the part of the source it lent.
  * The leave cell of a slot that is filled twice has one round. The partner of the second filling pays it by a signal, when it has done with
    its own slot, and hands over that slot.
-/
module

public import proofs.«01_k».proof.Proof.KernelIdeal.Devices
public import Idealize.ShloMosaic.Lib.Pipeline.Launch
public import Idealize.ShloMosaic.Lib.Pipeline.Kit
public import Idealize.ShloMosaic.Lib.Tactic

@[expose] public section
noncomputable section
namespace Cert.KernelIdeal.Gather
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

/-! ## The resources -/

abbrev UB : Type := URounds (GSem nD τ sig) (Fin 3)
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The cells -/

/-- What a semaphore is for. -/
inductive Kind where
  | bar
  | send (i : Fin 6) (s : Fin 4)
  | recv (i : Fin 6) (s : Fin 4)
  | leave (i : Fin 6) (s : Fin 4)
  | other
  deriving DecidableEq

def kind : SemLoc sig → Kind
  | .reg q => if h : q.val < 24 then .leave ⟨q.val / 4, by omega⟩ ⟨q.val % 4, by omega⟩ else .bar
  | .dma q => if h : 3 ≤ q.val ∧ q.val < 51 then
      (if (q.val - 3) % 8 < 4 then .send ⟨(q.val - 3) / 8, by omega⟩ ⟨(q.val - 3) % 4, by omega⟩
        else .recv ⟨(q.val - 3) / 8, by omega⟩ ⟨(q.val - 3) % 4, by omega⟩) else .other

theorem kind_bar : kind (.reg barS) = .bar := by decide +kernel
theorem kind_send (i : Fin 6) (s : Fin 4) : kind (.dma (sendS i s)) = .send i s := by revert i s; decide +kernel
theorem kind_recv (i : Fin 6) (s : Fin 4) : kind (.dma (recvS i s)) = .recv i s := by revert i s; decide +kernel
theorem kind_leave (i : Fin 6) (s : Fin 4) : kind (.reg (credS i s)) = .leave i s := by revert i s; decide +kernel

/-- The semaphore of a purpose. -/
def semOf : Kind → SemLoc sig
  | .bar => .reg barS
  | .send i s => .dma (sendS i s)
  | .recv i s => .dma (recvS i s)
  | .leave i s => .reg (credS i s)
  | .other => .dma ⟨0, by decide⟩

theorem kind_semOf (k : Kind) : kind (semOf k) = k := by
  cases k
  · exact kind_bar
  · exact kind_send _ _
  · exact kind_recv _ _
  · exact kind_leave _ _
  · decide +kernel

abbrev cell (c : Dev nD) (k : Kind) : GSem nD τ sig := ((c : Thread nD τ), semOf k)

/-- The step that fills slot `s` in round `r`. -/
def stp (s : Fin 4) (r : ℕ) : Fin 7 := Fin.ofNat 7 (s.val + 4 * r)
theorem stp_slot (t : Fin 7) : stp (slot t) (t.val / 4) = t := by revert t; decide +kernel
theorem slot_round (t : Fin 7) : (slot t).val + 4 * (t.val / 4) < 7 := by revert t; decide +kernel

/-- The credit of one of path `i`'s copies. -/
def credit (i : Fin 6) : ℕ := (slotM i 0).view.dmaCredit
theorem credit_pos (i : Fin 6) : 0 < credit i := by revert i; decide +kernel
theorem credit_slot (i : Fin 6) (s : Fin 4) : (slotM i s).view.dmaCredit = credit i := rfl
theorem credit_src (i : Fin 6) (t : Fin 7) : (srcM i t).view.dmaCredit = credit i := by
  rcases t with ⟨_ | k, h⟩ <;> rfl

/-! ## The contents -/

/-- Device `c`'s block of `x`, and its block of `w`, as the launch stages them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Path `i`'s rows of device `d`'s block of `x`. -/
def rowsC (d : Dev nD) (i : Fin 6) : (Srow i).Idx → Elt F .f32 := (rowsM i).view.read (Elt F) (xstg m ρ d)
/-- A buffer of device `c` whose slot holds the window that step `t` of path `i` delivers. -/
def slotC (c : Dev nD) (i : Fin 6) (t : Fin 7) : Buf (Elt F) ((slotM i (slot t)).view.loc (c : Thread nD τ)) :=
  (slotM i (slot t)).view.write (Elt F) (m ((slotM i (slot t)).view.loc (c : Thread nD τ))) (rowsC m ρ (orig i t c) i) Finset.univ

/-- Device `c`'s block of `x`, as the contents of the buffer that path `i`'s rows lie in. -/
def rowsB (c : Dev nD) (i : Fin 6) : Buf (Elt F) ((rowsM i).view.loc (c : Thread nD τ)) := xstg m ρ c

/-- Device `c` holds the slot of step `t` of path `i` with that step's window, at the share `q`. -/
def slotPts (q : PosShare TreeShare) (c : Dev nD) (i : Fin 6) (t : Fin 7) : sProp 𝕄 :=
  (slotM i (slot t)).view.loc (c : Thread nD τ) ↦[(slotM i (slot t)).view.set]{q} slotC m ρ c i t
/-- Device `c` holds the rows of `x` that path `i` moves, at the share `q`. -/
def rowsPts (q : PosShare TreeShare) (c : Dev nD) (i : Fin 6) : sProp 𝕄 :=
  (rowsM i).view.loc (c : Thread nD τ) ↦[(rowsM i).view.set]{q} rowsB m ρ c i
/-- Device `c` holds slot `s` of path `i`'s buffer, with anything in it. -/
def freeSlot (c : Dev nD) (i : Fin 6) (s : Fin 4) : sProp 𝕄 :=
  iprop(∃ f, (slotM i s).view.loc (c : Thread nD τ) ↦[(slotM i s).view.set]{fullShare} f)
/-- What step `t`'s copy reads, at the share `q`. -/
def srcPts (q : PosShare TreeShare) (c : Dev nD) (i : Fin 6) : Fin 7 → sProp 𝕄
  | ⟨0, _⟩ => rowsPts m ρ q c i
  | ⟨k + 1, h⟩ => slotPts m ρ q c i ⟨k, Nat.lt_of_succ_lt h⟩
/-- What device `c` needs to start step `t`: its partner's slot, and that the partner has come to the slot's round. -/
def land (c : Dev nD) (i : Fin 6) (t : Fin 7) : sProp 𝕄 :=
  iprop(freeSlot (F := F) (peer i t c) i (slot t) ∗ reached ER (cell (peer i t c) (.recv i (slot t))) (t.val / 4))

instance slotPts_storable (q : PosShare TreeShare) (c : Dev nD) (i : Fin 6) (t : Fin 7) : BI.Storable (upEmb : UEmb _ 𝕄) (slotPts m ρ q c i t) := by
  unfold slotPts; infer_instance
instance rowsPts_storable (q : PosShare TreeShare) (c : Dev nD) (i : Fin 6) : BI.Storable (upEmb : UEmb _ 𝕄) (rowsPts m ρ q c i) := by
  unfold rowsPts; infer_instance
instance freeSlot_storable (c : Dev nD) (i : Fin 6) (s : Fin 4) : BI.Storable (upEmb : UEmb _ 𝕄) (freeSlot (F := F) c i s) := by
  unfold freeSlot; infer_instance
instance srcPts_storable (q : PosShare TreeShare) (c : Dev nD) (i : Fin 6) (t : Fin 7) : BI.Storable (upEmb : UEmb _ 𝕄) (srcPts m ρ q c i t) := by
  rcases t with ⟨_ | k, h⟩ <;> unfold srcPts <;> infer_instance
instance land_storable (c : Dev nD) (i : Fin 6) (t : Fin 7) : BI.Storable (upEmb : UEmb _ 𝕄) (land (F := F) c i t) := by
  unfold land; infer_instance

/-! ## The schedule -/

/-- The slots that are exchanged across bit `b`. -/
def across (b : Fin 3) : Finset (Fin 6 × Fin 4) := Finset.univ.filter fun p => bit p.1 p.2 = b
/-- What the neighbour across bit `b` hands `c` at entry. -/
def barPay (c : Dev nD) (b : Fin 3) : sProp 𝕄 := bigSep (across b) fun p => land (F := F) c p.1 (stp p.2 0)

def dutiesK : Kind → ℕ → Finset (Fin 3)
  | .bar, r => if r = 0 then Finset.univ else ∅
  | .send _ s, r | .recv _ s, r => if s.val + 4 * r < 7 then {0} else ∅
  | .leave _ s, r => if r = 0 ∧ s.val < 3 then {0} else ∅
  | .other, _ => ∅
def amountK : Kind → ℕ
  | .send i _ | .recv i _ => credit i
  | _ => 1
def payK (c : Dev nD) : Kind → ℕ → Fin 3 → sProp 𝕄
  | .bar, _, b => barPay (F := F) c b
  | .send i s, r, _ => srcPts m ρ fullShare.left c i (stp s r)
  | .recv i s, r, _ => slotPts m ρ fullShare c i (stp s r)
  | .leave i s, _, _ => land (F := F) c i (stp s 1)
  | .other, _, _ => iprop(emp)

theorem payK_send (c : Dev nD) (i : Fin 6) (s : Fin 4) (r : ℕ) (d : Fin 3) : payK m ρ c (.send i s) r d = srcPts m ρ fullShare.left c i (stp s r) := rfl
theorem payK_recv (c : Dev nD) (i : Fin 6) (s : Fin 4) (r : ℕ) (d : Fin 3) : payK m ρ c (.recv i s) r d = slotPts m ρ fullShare c i (stp s r) := rfl
theorem payK_leave (c : Dev nD) (i : Fin 6) (s : Fin 4) (r : ℕ) (d : Fin 3) : payK m ρ c (.leave i s) r d = land (F := F) c i (stp s 1) := rfl
theorem payK_bar (c : Dev nD) (r : ℕ) (d : Fin 3) : payK m ρ c .bar r d = barPay (F := F) c d := rfl

theorem amountK_pos (k : Kind) : 0 < amountK k := by
  cases k <;> first | exact Nat.one_pos | exact credit_pos _

/-- The whole protocol. -/
def Rd : Rounds.Schedule (GSem nD τ sig) (Fin 3) 𝕄 where
  duties g r := if g.1.2 = .tc then dutiesK (kind g.2) r else ∅
  unitless _ := False
  amount g _ _ := amountK (kind g.2)
  payload g r d := payK m ρ g.1.1 (kind g.2) r d
  amount_pos g _ _ _ := amountK_pos _

instance payK_storable (c : Dev nD) (k : Kind) (r : ℕ) (d : Fin 3) : BI.Storable (upEmb : UEmb _ 𝕄) (payK m ρ c k r d) := by
  cases k <;> unfold payK
  · unfold barPay; infer_instance
  all_goals infer_instance
instance Rd_payload_storable (g : GSem nD τ sig) (r : ℕ) (d : Fin 3) : BI.Storable (upEmb : UEmb _ 𝕄) ((Rd (F := F) m ρ).payload g r d) := by
  show BI.Storable upEmb (payK m ρ g.1.1 (kind g.2) r d); infer_instance

section Facts
variable (c : Dev nD) (k : Kind) (r : ℕ) (d : Fin 3)
theorem duties_cell : (Rd (F := F) m ρ).duties (cell c k) r = dutiesK k r := by
  dsimp only [Rd]; rw [if_pos rfl, kind_semOf]
theorem amount_cell : (Rd (F := F) m ρ).amount (cell c k) r d = amountK k := by
  show amountK (kind (semOf k)) = _; rw [kind_semOf]
theorem payload_cell : (Rd (F := F) m ρ).payload (cell c k) r d = payK m ρ c k r d := by
  show payK m ρ c (kind (semOf k)) r d = _; rw [kind_semOf]
theorem expect_cell : (Rd (F := F) m ρ).expect (cell c k) r = (dutiesK k r).card * amountK k := by
  unfold Schedule.expect Schedule.amountOf
  rw [duties_cell, Finset.sum_congr rfl fun d _ => amount_cell m ρ c k r d, Finset.sum_const, smul_eq_mul]
/-- The payloads of a round with the one duty `0`. -/
theorem rest_cell (h : dutiesK k r = {0}) :
    bigSep ((Rd (F := F) m ρ).duties (cell c k) r \ ∅) (fun d => (Rd (F := F) m ρ).payload (cell c k) r d) = payK m ρ c k r 0 := by
  rw [Finset.sdiff_empty, duties_cell, h, bigSep_singleton, payload_cell]
end Facts

theorem duties_send (i : Fin 6) (t : Fin 7) : dutiesK (.send i (slot t)) (t.val / 4) = {0} := if_pos (slot_round t)
theorem duties_recv (i : Fin 6) (t : Fin 7) : dutiesK (.recv i (slot t)) (t.val / 4) = {0} := if_pos (slot_round t)
theorem duties_leave (i : Fin 6) (s : Fin 4) (h : s.val < 3) : dutiesK (.leave i s) 0 = {0} := if_pos ⟨rfl, h⟩

/-! ## Levels -/

/-- An index of a cell is its level; every tensor core's cell has all of them. -/
def L (g : GSem nD τ sig) : Finset ℕ := if g.1.2 = .tc then Finset.range 1000 else ∅
def lv (_ : GSem nD τ sig) (n : ℕ) : ℕ := n
theorem L_of_ne (g : GSem nD τ sig) (h : g.1.2 ≠ .tc) : L g = ∅ := if_neg h
theorem mem_L (c : Dev nD) (sm : SemLoc sig) {n : ℕ} (h : n < 1000) : n ∈ L ((c : Thread nD τ), sm) := by
  unfold L; rw [if_pos rfl]; exact Finset.mem_range.mpr h

/-- A wait at index `n` is allowed while everything owed is above `n`. -/
theorem mayWait_of {n : ℕ} (hn : n < 1000) (c : Dev nD) (sm : SemLoc sig) (O : CellTallies nD τ sig ℕ)
    (h : ∀ g k, 0 < O g k → k ∈ L g ∧ n < k) : (levAts L lv : sProp 𝕄) ⊢ MayWait (c : Thread nD τ) sm n O :=
  MayOwe.of_cut (L := L) (lev := lv) n (fun p hp => by rw [Finset.mem_singleton.mp hp]; exact mem_L c sm hn) (fun g k hg => (h g k hg).1)
    (fun p hp => by rw [Finset.mem_singleton.mp hp]; exact Nat.le_refl n) (fun g k hg => (h g k hg).2)

end Cert.KernelIdeal.Gather
-- ==== Proof.KernelIdeal.Steps.lean ====
/-
  One step of a path, for each of the six kinds of step: what the device needs to take it, and what it has afterwards.
-/
module

public import proofs.«01_k».proof.Proof.KernelIdeal.Protocol

@[expose] public section
noncomputable section
namespace Cert.KernelIdeal.Gather
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig ℕ (Elt F) ℕ UU ℕ
variable (m : (ℓ : Loc nD τ sig) → Buf (Elt F) ℓ) (ρ : Dev nD → PrngReg)

abbrev 𝒱₀ : Variants := Variants.none
/-- Running `p` on device `c` ends in `Y`. -/
abbrev WP (c : Dev nD) (p : Prg F) (Y : PUnit.{1} → sProp 𝕄) : sProp 𝕄 :=
  wp frame (wpE (defs₀ (F := F)) 𝒱₀ (c : Thread nD τ) none) Set.univ p Y

/-! ## The shared facts -/

/-- The cells of a device, numbered: the barrier cell, and the send, receive and leave cells of each slot. -/
abbrev KI : Type := Option (Fin 3 × Fin 6 × Fin 4)
def kd : KI → Kind
  | none => .bar
  | some (a, i, s) => (![Kind.send i s, .recv i s, .leave i s] : Fin 3 → Kind) a

/-- Every cell's invariant, and that every cell has come to its round 0. -/
def recs (K : Dev nD × KI → ℕ) : sProp 𝕄 :=
  bigSep Finset.univ fun ck : Dev nD × KI => iprop(cellInv ER (Rd m ρ) (K ck) (cell ck.1 (kd ck.2)) ∗ reached ER (cell ck.1 (kd ck.2)) 0)

instance recs_persistent (K : Dev nD × KI → ℕ) : BI.Persistent (recs m ρ K) := by unfold recs; infer_instance

theorem recs_at (K : Dev nD × KI → ℕ) (ck : Dev nD × KI) :
    recs m ρ K ⊢ iprop(cellInv ER (Rd m ρ) (K ck) (cell ck.1 (kd ck.2)) ∗ reached ER (cell ck.1 (kd ck.2)) 0) :=
  bigSep_elim (Finset.mem_univ ck)

theorem recs_inv (K : Dev nD × KI → ℕ) (c : Dev nD) (k : KI) : recs m ρ K ⊢ cellInv ER (Rd m ρ) (K (c, k)) (cell c (kd k)) := by
  iintro H
  ihave H' := (recs_at m ρ K (c, k)) $$ H
  icases H' with ⟨H', -⟩
  iexact H'
theorem recs_reached (K : Dev nD × KI → ℕ) (c : Dev nD) (k : KI) : recs m ρ K ⊢ reached ER (cell c (kd k)) 0 := by
  iintro H
  ihave H' := (recs_at m ρ K (c, k)) $$ H
  icases H' with ⟨-, H'⟩
  iexact H'

/-! ## What a device holds of a path -/

/-- When step `t`'s window is due, and when the leave for step `t` is. -/
def tR (i : Fin 6) (t : Fin 7) : ℕ := 20 * t.val + i.val + 2
def tL (i : Fin 6) (t : Fin 7) : ℕ := 20 * (t.val - 2) + i.val + 12

/-- The things that a device can hold of a path. -/
inductive Pkt where
  /-- the duties that step `t`'s copy pays -/
  | tok (t : Fin 7)
  /-- the partner's slot, for step `t` to write -/
  | land (t : Fin 7)
  /-- half of the device's own rows of `x` -/
  | rows
  /-- half of the slot that step `t` filled, the half that is lent to the next copy -/
  | lh (t : Fin 7)
  /-- the other half -/
  | rh (t : Fin 7)
  /-- the round that the device has come to at a send cell, a receive cell, a leave cell -/
  | spos (s : Fin 4) (r : ℕ)
  | rpos (s : Fin 4) (r : ℕ)
  | lpos (s : Fin 4) (r : ℕ)
  /-- the right to wait for step `t`'s window, and for the leave for step `t` -/
  | crR (t : Fin 7)
  | crL (t : Fin 7)
  /-- the duty that the leave for the partner's step `t` pays -/
  | tokL (t : Fin 7)
  /-- the right to wait for step `t`'s copy to have left -/
  | fly (t : Fin 7)
  deriving DecidableEq

/-- What each is. -/
def pk (c : Dev nD) (i : Fin 6) : Pkt → sProp 𝕄
  | .tok t => iprop(dutyTok ER (cell c (.send i (slot t))) (t.val / 4) 0 ∗ dutyTok ER (cell (peer i t c) (.recv i (slot t))) (t.val / 4) 0)
  | .land t => Gather.land (F := F) c i t
  | .rows => rowsPts m ρ fullShare.left c i
  | .lh t => slotPts m ρ fullShare.left c i t
  | .rh t => slotPts m ρ fullShare.right c i t
  | .spos s r => iprop(atPos ER (cell c (.send i s)) r ∅ 0 ∗ reached ER (cell c (.send i s)) r)
  | .rpos s r => iprop(atPos ER (cell c (.recv i s)) r ∅ 0 ∗ reached ER (cell c (.recv i s)) r)
  | .lpos s r => atPos ER (cell c (.leave i s)) r ∅ 0
  | .crR t => cred (tallyAt (cell c (.recv i (slot t))) (tR i t) (credit i))
  | .crL t => cred (tallyAt (cell c (.leave i (slot t))) (tL i t) 1)
  | .tokL t => dutyTok ER (cell (peer i t c) (.leave i (slot t))) 0 0
  | .fly t => cred (tallyAt (cell c (.send i (slot t))) 0 (credit i))

/-- The thing that step `t`'s copy lends. -/
def srcPkt : Fin 7 → Pkt
  | ⟨0, _⟩ => .rows
  | ⟨k + 1, h⟩ => .lh ⟨k, Nat.lt_of_succ_lt h⟩

theorem pk_src (c : Dev nD) (i : Fin 6) (t : Fin 7) : pk m ρ c i (srcPkt t) = srcPts m ρ fullShare.left c i t := by
  rcases t with ⟨_ | k, h⟩ <;> rfl

/-- The buffer that step `t`'s copy reads. -/
def srcB (c : Dev nD) (i : Fin 6) : (t : Fin 7) → Buf (Elt F) ((srcM i t).view.loc (c : Thread nD τ))
  | ⟨0, _⟩ => rowsB m ρ c i
  | ⟨k + 1, h⟩ => slotC m ρ c i ⟨k, Nat.lt_of_succ_lt h⟩

theorem srcPts_eq (q : PosShare TreeShare) (c : Dev nD) (i : Fin 6) (t : Fin 7) :
    srcPts m ρ q c i t = ((srcM i t).view.loc (c : Thread nD τ) ↦[(srcM i t).view.set]{q} srcB m ρ c i t) := by
  rcases t with ⟨_ | k, h⟩ <;> rfl

/-- Step `t`'s copy reads the window that the partner is to get. -/
theorem src_read (c : Dev nD) (i : Fin 6) (t : Fin 7) : (srcM i t).view.read (Elt F) (srcB m ρ c i t) = rowsC m ρ (orig i t (peer i t c)) i := by
  rcases t with ⟨_ | k, h⟩
  · rw [orig_zero]; rfl
  · rw [orig_succ]; exact View.read_write_univ _ _

/-- A slot of `c` written with the window that step `t` delivers holds that window, whatever was there. -/
theorem landed (c : Dev nD) (i : Fin 6) (t : Fin 7) (f : Buf (Elt F) ((slotM i (slot t)).view.loc (c : Thread nD τ))) :
    ((slotM i (slot t)).view.loc (c : Thread nD τ) ↦[(slotM i (slot t)).view.set]{fullShare}
        (slotM i (slot t)).view.write (Elt F) f (rowsC m ρ (orig i t c) i) Finset.univ : sProp 𝕄)
      = slotPts m ρ fullShare c i t := by
  unfold slotPts slotC
  refine pointsTo_congr fun j hj => ?_
  obtain ⟨x, -, rfl⟩ := Finset.mem_map.mp hj
  rw [View.write_emb_of_mem _ _ (Finset.mem_univ x), View.write_emb_of_mem _ _ (Finset.mem_univ x)]

theorem slot_halves (c : Dev nD) (i : Fin 6) (t : Fin 7) :
    (slotPts m ρ fullShare c i t : sProp 𝕄) ⊣⊢ iprop(slotPts m ρ fullShare.left c i t ∗ slotPts m ρ fullShare.right c i t) :=
  pointsTo_share (PosShare.mem_left_op_right fullShare)

/-- The two halves of a slot, as a slot with anything in it. -/
theorem freeSlot_of (c : Dev nD) (i : Fin 6) (t : Fin 7) :
    iprop(slotPts m ρ fullShare.left c i t ∗ slotPts m ρ fullShare.right c i t) ⊢ freeSlot (F := F) c i (slot t) := by
  iintro H
  ihave H' := (slot_halves m ρ c i t).2 $$ H
  unfold freeSlot slotPts
  iexists slotC m ρ c i t
  iexact H'

/-! ## The steps that move ownership -/

/-- Nothing that is still owed is due by the level `n`. -/
def Above (n : ℕ) (O : CellTallies nD τ sig ℕ) : Prop := ∀ g k, 0 < O g k → k ∈ L g ∧ n < k

section Steps
variable (K : Dev nD × KI → ℕ) (c : Dev nD) (i : Fin 6) (t : Fin 7) (P : Prg F) (O : CellTallies nD τ sig ℕ) (W : Waits sig ℕ)

theorem start_to (Y : PUnit → sProp 𝕄) (n : Dev nD) (hn : n = peer i t c) :
    iprop(recs m ρ K ∗ pk m ρ c i (.tok t) ∗ pk m ρ c i (.land t) ∗ pk m ρ c i (srcPkt t) ∗ pk m ρ c i (.spos (slot t) (t.val / 4))
        ∗ owes (c : Thread nD τ) (O + tallyAt (cell (peer i t c) (.recv i (slot t))) (tR i t) (credit i)) W)
      ⊢ iprop((pk m ρ c i (.fly t) ∗ pk m ρ c i (.spos (slot t) (t.val / 4)) ∗ owes (c : Thread nD τ) O W -∗ WP c P Y) -∗ WP c (.op (.enqueueDma (srcM i t) (.remote (Dev.tc n) (slotM i (slot t)) (.dma (sendS i (slot t)))) (.dma (recvS i (slot t)))
            (wordExact_src i t) (wordExact_slot i _) (typed_dma _ _ _ _ _)) fun _ => P) Y) := by
  subst hn
  rw [pk_src, srcPts_eq]
  dsimp only [pk, Gather.land, freeSlot]
  iintro ⟨#HI, ⟨HtS, HtR⟩, ⟨⟨%fd, Hd⟩, #HrR⟩, Hs, ⟨Hat, #HrS⟩, HO⟩ Hk
  iapply (Rounds.wp_send_pointsTo 𝒱₀ ER (Rd m ρ) (c : Thread nD τ) none (κ₁ := K (c, some (0, i, slot t))) (κ₂ := K (peer i t c, some (1, i, slot t)))
      (c' := (peer i t c : Thread nD τ)) (src := srcM i t) (dst := slotM i (slot t)) (sS := .dma (sendS i (slot t))) (sem := .dma (recvS i (slot t)))
      (r₁ := t.val / 4) (r₂ := t.val / 4) (d₁ := 0) (d₂ := 0) (fd := fd) (fs := srcB m ρ c i t) (q := fullShare.left)
      (by rw [show ((c : Thread nD τ), SemLoc.dma (sendS i (slot t))) = cell c (.send i (slot t)) from rfl, duties_cell, duties_send]; exact Finset.mem_singleton_self _)
      (by rw [show ((peer i t c : Thread nD τ), SemLoc.dma (recvS i (slot t))) = cell (peer i t c) (.recv i (slot t)) from rfl, duties_cell, duties_recv]; exact Finset.mem_singleton_self _)
      (tR i t) 0 (credit i) (credit_slot i (slot t)) (amount_cell m ρ c (.send i (slot t)) _ _) (amount_cell m ρ (peer i t c) (.recv i (slot t)) _ _) O rfl (W := W)
      (by
        rw [show ((c : Thread nD τ), SemLoc.dma (sendS i (slot t))) = cell c (.send i (slot t)) from rfl, payload_cell]
        rw [payK_send, stp_slot, srcPts_eq])
      (by
        rw [show ((peer i t c : Thread nD τ), SemLoc.dma (recvS i (slot t))) = cell (peer i t c) (.recv i (slot t)) from rfl, payload_cell]
        rw [payK_recv, stp_slot, src_read, landed])) $$ [HtS HtR Hd Hs HO]
  · isplitr; · iapply (recs_inv m ρ K c (some (0, i, slot t))); iexact HI
    isplitr; · iapply (recs_inv m ρ K (peer i t c) (some (1, i, slot t))); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hf, HO⟩
  iapply Hk
  isplitl [Hf]; · iexact Hf
  isplitl [Hat]
  · isplitl [Hat]; · iexact Hat
    iexact HrS
  iexact HO

theorem step_start (Y : PUnit → sProp 𝕄) :
    iprop(recs m ρ K ∗ pk m ρ c i (.tok t) ∗ pk m ρ c i (.land t) ∗ pk m ρ c i (srcPkt t) ∗ pk m ρ c i (.spos (slot t) (t.val / 4))
        ∗ owes (c : Thread nD τ) (O + tallyAt (cell (peer i t c) (.recv i (slot t))) (tR i t) (credit i)) W)
      ⊢ iprop((pk m ρ c i (.fly t) ∗ pk m ρ c i (.spos (slot t) (t.val / 4)) ∗ owes (c : Thread nD τ) O W -∗ WP c P Y) -∗ WP c (eff c i (.start t) P) Y) :=
  start_to m ρ K c i t P O W Y (devStart i t c) (devStart_eq i t c)

/-- A wait for the one duty of a round. -/
theorem wait_one (Y : PUnit → sProp 𝕄) {w : TpuEff nD τ sig (Elt F) Λ₀ .tc PUnit} (k : KI) (r n k' : ℕ) (hn : n < 1000)
    (hw : ∀ Z : PUnit → sProp 𝕄, wpE (defs₀ (F := F)) 𝒱₀ (c : Thread nD τ) none Set.univ w Z = waitSpec (c : Thread nD τ) Set.univ (semOf (kd k)) k' Z)
    (hd : dutiesK (kd k) r = {0}) (hk : k' = amountK (kd k)) (hO : Above n O) :
    iprop(recs m ρ K ∗ levAts L lv ∗ cred (tallyAt (cell c (kd k)) n k') ∗ atPos ER (cell c (kd k)) r ∅ 0 ∗ owes (c : Thread nD τ) O W)
      ⊢ iprop((atPos ER (cell c (kd k)) (r + 1) ∅ 0 ∗ reached ER (cell c (kd k)) (r + 1) ∗ payK m ρ c (kd k) r 0
            ∗ owes (c : Thread nD τ) O (insert (semOf (kd k), n) W) -∗ WP c P Y)
          -∗ WP c (.op w fun _ => P) Y) := by
  iintro ⟨#HI, #Hl, Hc, Hat, HO⟩ Hk
  iapply (Rounds.wp_wait_rest_token 𝒱₀ ER (Rd m ρ) (c : Thread nD τ) none (κ := K (c, k)) hw (Set.mem_univ _) n (O := O) (W := W) (R := r) (m := 0) (T := ∅)
      (by rw [Nat.zero_add]; exact ((expect_cell m ρ c (kd k) r).trans (by rw [hd, hk, Finset.card_singleton, Nat.one_mul])).symm)) $$ [Hc Hat HO]
  · isplitr; · iapply (recs_inv m ρ K c k); iexact HI
    isplitl [Hc]; · iexact Hc
    isplitl [HO]; · iexact HO
    isplitr; · iapply (mayWait_of hn c (semOf (kd k)) O hO); iexact Hl
    iexact Hat
  iintro ⟨HO, Hat, Hr, Hp⟩
  ihave Hp := (Entails.of_eq (rest_cell m ρ c (kd k) r hd)) $$ Hp
  iapply Hk
  isplitl [Hat]; · iexact Hat
  isplitl [Hr]; · iexact Hr
  isplitl [Hp]; · iexact Hp
  iexact HO

theorem step_wrecv (Y : PUnit → sProp 𝕄) (hO : Above (tR i t) O) :
    iprop(recs m ρ K ∗ levAts L lv ∗ pk m ρ c i (.crR t) ∗ pk m ρ c i (.rpos (slot t) (t.val / 4)) ∗ owes (c : Thread nD τ) O W)
      ⊢ iprop((pk m ρ c i (.rpos (slot t) (t.val / 4 + 1)) ∗ pk m ρ c i (.lh t) ∗ pk m ρ c i (.rh t)
            ∗ owes (c : Thread nD τ) O (insert (.dma (recvS i (slot t)), tR i t) W) -∗ WP c P Y) -∗ WP c (eff c i (.wrecv t) P) Y) := by
  unfold eff
  dsimp only [pk]
  iintro ⟨#HI, #Hl, Hc, ⟨Hat, -⟩, HO⟩ Hk
  iapply (wait_one m ρ K c P O W Y (some (1, i, slot t)) (t.val / 4) (tR i t) (credit i) (by unfold tR; omega)
      (by rw [← credit_slot i (slot t)]; exact wpE_waitDma2_eq 𝒱₀ (c : Thread nD τ) none Set.univ) (duties_recv i t) rfl hO) $$ [Hc Hat HO]
  · isplitr; · iexact HI
    isplitr; · iexact Hl
    isplitl [Hc]; · iexact Hc
    isplitl [Hat]; · iexact Hat
    iexact HO
  iintro ⟨Hat, Hr, Hp, HO⟩
  ihave Hp := (show payK m ρ c (kd (some (1, i, slot t))) (t.val / 4) 0 ⊢ _ from
    (Entails.of_eq (show payK m ρ c (.recv i (slot t)) (t.val / 4) 0 = _ by rw [payK_recv, stp_slot])).trans (slot_halves m ρ c i t).1) $$ Hp
  icases Hp with ⟨Hl', Hr'⟩
  iapply Hk
  isplitl [Hat Hr]
  · isplitl [Hat]; · iexact Hat
    iexact Hr
  isplitl [Hl']; · iexact Hl'
  isplitl [Hr']; · iexact Hr'
  iexact HO

theorem step_wsend (Y : PUnit → sProp 𝕄) (hO : Above 0 O) :
    iprop(recs m ρ K ∗ levAts L lv ∗ pk m ρ c i (.fly t) ∗ pk m ρ c i (.spos (slot t) (t.val / 4)) ∗ owes (c : Thread nD τ) O W)
      ⊢ iprop((pk m ρ c i (.spos (slot t) (t.val / 4 + 1)) ∗ pk m ρ c i (srcPkt t)
            ∗ owes (c : Thread nD τ) O (insert (.dma (sendS i (slot t)), 0) W) -∗ WP c P Y) -∗ WP c (eff c i (.wsend t) P) Y) := by
  rw [pk_src]
  unfold eff
  dsimp only [pk]
  iintro ⟨#HI, #Hl, Hc, ⟨Hat, -⟩, HO⟩ Hk
  iapply (wait_one m ρ K c P O W Y (some (0, i, slot t)) (t.val / 4) 0 (credit i) (by omega)
      (by rw [← credit_src i t]; exact wpE_waitDma2_eq 𝒱₀ (c : Thread nD τ) none Set.univ) (duties_send i t) rfl hO) $$ [Hc Hat HO]
  · isplitr; · iexact HI
    isplitr; · iexact Hl
    isplitl [Hc]; · iexact Hc
    isplitl [Hat]; · iexact Hat
    iexact HO
  iintro ⟨Hat, Hr, Hp, HO⟩
  ihave Hp := (Entails.of_eq (show payK m ρ c (kd (some (0, i, slot t))) (t.val / 4) 0 = srcPts m ρ fullShare.left c i t from
    (show payK m ρ c (.send i (slot t)) (t.val / 4) 0 = _ by rw [payK_send, stp_slot]))) $$ Hp
  iapply Hk
  isplitl [Hat Hr]
  · isplitl [Hat]; · iexact Hat
    iexact Hr
  isplitl [Hp]; · iexact Hp
  iexact HO

theorem slot_late (h : 4 ≤ t.val) : (slot t).val < 3 ∧ stp (slot t) 1 = t ∧ t.val / 4 = 1 := by revert t; decide +kernel

theorem step_wcred (Y : PUnit → sProp 𝕄) (h : 4 ≤ t.val) (hO : Above (tL i t) O) :
    iprop(recs m ρ K ∗ levAts L lv ∗ pk m ρ c i (.crL t) ∗ pk m ρ c i (.lpos (slot t) 0) ∗ owes (c : Thread nD τ) O W)
      ⊢ iprop((pk m ρ c i (.lpos (slot t) 1) ∗ pk m ρ c i (.land t)
            ∗ owes (c : Thread nD τ) O (insert (.reg (credS i (slot t)), tL i t) W) -∗ WP c P Y) -∗ WP c (eff c i (.wcred t) P) Y) := by
  unfold eff
  dsimp only [pk]
  iintro ⟨#HI, #Hl, Hc, Hat, HO⟩ Hk
  iapply (wait_one m ρ K c P O W Y (some (2, i, slot t)) 0 (tL i t) 1 (by unfold tL; omega)
      (wpE_semWait_eq 𝒱₀ (c : Thread nD τ) none Set.univ) (duties_leave i (slot t) (slot_late t h).1) rfl hO) $$ [Hc Hat HO]
  · isplitr; · iexact HI
    isplitr; · iexact Hl
    isplitl [Hc]; · iexact Hc
    isplitl [Hat]; · iexact Hat
    iexact HO
  iintro ⟨Hat, Hr, Hp, HO⟩
  ihave Hp := (Entails.of_eq (show payK m ρ c (kd (some (2, i, slot t))) 0 0 = Gather.land (F := F) c i t from
    (show payK m ρ c (.leave i (slot t)) 0 0 = _ by rw [payK_leave, (slot_late t h).2.1]))) $$ Hp
  iapply Hk
  isplitl [Hat]; · iexact Hat
  isplitl [Hp]; · iexact Hp
  iexact HO

theorem slot_next (h : 1 ≤ t.val ∧ t.val ≤ 3) : slot (prev t) = slot (t + 3) ∧ 4 ≤ (t + 3).val := by revert t; decide +kernel

theorem step_sig (Y : PUnit → sProp 𝕄) (h : 1 ≤ t.val ∧ t.val ≤ 3) :
    iprop(recs m ρ K ∗ pk m ρ c i (.lh (prev t)) ∗ pk m ρ c i (.rh (prev t)) ∗ pk m ρ c i (.tokL (t + 3)) ∗ pk m ρ c i (.rpos (slot (prev t)) 1)
        ∗ owes (c : Thread nD τ) (O + tallyAt (cell (peer i (t + 3) c) (.leave i (slot (t + 3)))) (tL i (t + 3)) 1) W)
      ⊢ iprop((pk m ρ c i (.rpos (slot (prev t)) 1) ∗ owes (c : Thread nD τ) O W -∗ WP c P Y) -∗ WP c (eff c i (.sig t) P) Y) := by
  have hs := slot_next t h
  have hl := slot_late (t + 3) hs.2
  unfold eff
  simp only [devSig_eq i t c h]
  dsimp only [pk]
  iintro ⟨#HI, Hlh, Hrh, Htok, ⟨Hat, #Hr⟩, HO⟩ Hk
  ihave Hf := (freeSlot_of m ρ c i (prev t)) $$ [Hlh Hrh]
  · isplitl [Hlh]; · iexact Hlh
    iexact Hrh
  rw [hs.1]
  iapply (Rounds.wp_signal 𝒱₀ ER (Rd m ρ) (c : Thread nD τ) none (dst := (peer i (t + 3) c : Thread nD τ)) (sem := credS i (slot (t + 3)))
      (κ := K (peer i (t + 3) c, some (2, i, slot (t + 3)))) (r := 0) (d := 0)
      (by rw [show ((peer i (t + 3) c : Thread nD τ), SemLoc.reg (credS i (slot (t + 3)))) = cell (peer i (t + 3) c) (.leave i (slot (t + 3))) from rfl, duties_cell,
            duties_leave _ _ hl.1]; exact Finset.mem_singleton_self _)
      ((amount_cell m ρ (peer i (t + 3) c) (.leave i (slot (t + 3))) 0 0).trans (by show 1 = _; decide)) (tL i (t + 3)) O rfl (W := W)) $$ [Hf Htok HO]
  · isplitr; · iapply (recs_inv m ρ K (peer i (t + 3) c) (some (2, i, slot (t + 3)))); iexact HI
    isplitl [HO]; · iexact HO
    isplitl [Htok]; · iexact Htok
    isplitl [Hf]
    · rw [show ((peer i (t + 3) c : Thread nD τ), SemLoc.reg (credS i (slot (t + 3)))) = cell (peer i (t + 3) c) (.leave i (slot (t + 3))) from rfl, payload_cell]
      rw [payK_leave, hl.2.1]
      unfold Gather.land
      rw [hl.2.2, peer_peer]
      isplitl [Hf]; · iexact Hf
      iexact Hr
    iapply (recs_reached m ρ K (peer i (t + 3) c) (some (2, i, slot (t + 3)))); iexact HI
  iintro HO
  iapply Hk
  isplitl [Hat]
  · isplitl [Hat]; · iexact Hat
    iexact Hr
  iexact HO

end Steps
end Cert.KernelIdeal.Gather
-- ==== Proof.KernelIdeal.Result.lean ====
/-
  The result of one device, block by block: the device's own rows, and the window that each step of each path delivers. The blocks do not
  overlap and fill the result, so what the blocks hold is what the result is.
-/
module

public import proofs.«01_k».proof.Proof.KernelIdeal.Protocol

@[expose] public section
noncomputable section
namespace Cert.KernelIdeal.Gather
open Cert.KernelIdeal Cert.KernelIdeal.Gen
open Idealize.ShloMosaic Idealize.ShloMosaic.TcCoe
open Idealize.SL Idealize.SL.Sem
variable {F : FTy → Type} [FloatOps F]
variable (m : (ℓ : Loc nD τ sig) → Buf (Elt F) ℓ) (ρ : Dev nD → PrngReg)

/-- A block of the result: the device's own, or that of a path's step. -/
abbrev Key : Type := Option (Fin 6 × Fin 7)

/-- Where the block lies. -/
def boxR (c : Dev nD) : Key → Rect S4096x256
  | none => Rect.unit (s := S4096x256) (k0_off1 c) S512x256.size (k0_off1_inb c)
  | some (i, t) => Rect.unit (s := S4096x256) (off i t c) (Sout i).size (inb_off i t c)

/-- The whole of `w` as a load reads it. -/
abbrev wR : Rect S4096x256 := Rect.unit (s := S4096x256) ![0, 0] S4096x256.size inb_S4096x256_S4096x256_0_0
abbrev xR : Rect S512x4096 := Rect.unit (s := S512x4096) ![0, 0] S512x4096.size inb_S512x4096_S512x4096_0_0

/-- What the device stores for its own rows. -/
def ownPay (c : Dev nD) : FVec F S512x256 .f32 :=
  k0_pay1 (xM.view.readAt (Elt F) xR.toLoadRect (xstg m ρ c)) (wM.view.readAt (Elt F) wR.toLoadRect (wstg m ρ c))
/-- The contents of step `t`'s slot as contents of the path's buffer. -/
def bufC (c : Dev nD) (i : Fin 6) (t : Fin 7) : (bufM i).view.ty.Contents (Elt F) := slotC m ρ c i t
/-- What the device stores for step `t` of path `i`. -/
def stepPay (c : Dev nD) (i : Fin 6) (t : Fin 7) : FVec F (Sout i) .f32 :=
  pay i ((bufM i).view.readAt (Elt F) (slotR i (slot t)).toLoadRect (bufC m ρ c i t)) (wM.view.readAt (Elt F) wR.toLoadRect (wstg m ρ c))
/-- What the device stores in each block. -/
def boxPay (c : Dev nD) : (k : Key) → (boxR c k).shape.Idx → Elt F .f32
  | none => ownPay m ρ c
  | some (i, t) => stepPay m ρ c i t

/-! ## The blocks as rows -/

def rowLo (c : Dev nD) : Key → ℕ
  | none => 512 * c.val
  | some (i, t) => 512 * (orig i t c).val + row0 i
def rowN : Key → ℕ
  | none => 512
  | some (i, _) => nrows i

/-- The elements of the result that a block has. -/
abbrev boxS (c : Dev nD) (k : Key) : Finset (cc0_stg2_0 : Ref sig .tc).ty.Idx := (oM.access (boxR c k)).set

theorem mem_boxS (c : Dev nD) (k : Key) (j : S4096x256.Idx) : j ∈ boxS c k ↔ rowLo c k ≤ (j 0).val ∧ (j 0).val < rowLo c k + rowN k := by
  have h1 : boxS c k = (boxR c k).set := View.set_slice_whole cc0_stg2_0 (boxR c k)
  rw [h1]
  have h0 : (j 1).val < 256 := (j 1).isLt
  rcases k with _ | ⟨i, t⟩
  · unfold boxR; rw [Rect.mem_set_unit]
    constructor
    · intro h; have := h 0; rw [off1_eq] at this; exact this
    · intro h a
      rw [off1_eq]
      match a with
      | ⟨0, _⟩ => exact h
      | ⟨1, _⟩ => exact ⟨Nat.zero_le _, by show (j 1).val < 0 + 256; omega⟩
  · unfold boxR; rw [Rect.mem_set_unit]
    constructor
    · intro h; have := h 0; rw [off_eq] at this; exact this
    · intro h a
      rw [off_eq]
      match a with
      | ⟨0, _⟩ => exact h
      | ⟨1, _⟩ => exact ⟨Nat.zero_le _, by show (j 1).val < 0 + 256; omega⟩

theorem rows_apart : ∀ (c : Dev nD) (i : Fin 6) (t : Fin 7), (rowLo c none + 512 ≤ rowLo c (some (i, t)) ∨ rowLo c (some (i, t)) + nrows i ≤ rowLo c none) ∧
    ∀ (i' : Fin 6) (t' : Fin 7), (i, t) ≠ (i', t') →
      rowLo c (some (i, t)) + nrows i ≤ rowLo c (some (i', t')) ∨ rowLo c (some (i', t')) + nrows i' ≤ rowLo c (some (i, t)) := by
  decide +kernel

theorem boxS_disjoint (c : Dev nD) (k k' : Key) (h : k ≠ k') : Disjoint (boxS c k) (boxS c k') := by
  rw [Finset.disjoint_left]
  intro j h1 h2
  rw [mem_boxS] at h1 h2
  rcases k with _ | ⟨i, t⟩ <;> rcases k' with _ | ⟨i', t'⟩
  · exact h rfl
  · have := (rows_apart c i' t').1; simp only [rowN] at h1 h2; omega
  · have := (rows_apart c i t).1; simp only [rowN] at h1 h2; omega
  · have := (rows_apart c i t).2 i' t' (fun e => h (congrArg some e)); simp only [rowN] at h1 h2; omega

/-- The path that a row of a device's block belongs to. -/
def pathAt (n : ℕ) : Fin 6 := if n < 88 then 0 else if n < 176 then 3 else if n < 264 then 1 else if n < 344 then 4 else if n < 432 then 2 else 5

theorem pathAt_spec (n : ℕ) (h : n < 512) : row0 (pathAt n) ≤ n ∧ n < row0 (pathAt n) + nrows (pathAt n) := by
  have : ∀ n : Fin 512, row0 (pathAt n.val) ≤ n.val ∧ n.val < row0 (pathAt n.val) + nrows (pathAt n.val) := by decide +kernel
  exact this ⟨n, h⟩

/-- Every element of the result lies in a block. -/
theorem boxS_cover (c : Dev nD) (j : S4096x256.Idx) : ∃ k, j ∈ boxS c k := by
  have hj : (j 0).val < 4096 := (j 0).isLt
  have ho : (j 0).val / 512 < 8 := by omega
  by_cases h : (⟨(j 0).val / 512, ho⟩ : Dev nD) = c
  · refine ⟨none, (mem_boxS c none j).mpr ?_⟩
    have := congrArg Fin.val h
    simp only [rowLo, rowN] at *; omega
  · obtain ⟨t, ht⟩ := orig_surj (pathAt ((j 0).val % 512)) c _ h
    refine ⟨some (pathAt ((j 0).val % 512), t), (mem_boxS c _ j).mpr ?_⟩
    have hp := pathAt_spec ((j 0).val % 512) (Nat.mod_lt _ (by decide))
    simp only [rowLo, rowN, ht]
    omega

/-! ## What the blocks hold -/

/-- The blocks of `D` hold what the device stores there. -/
def OutOk (c : Dev nD) (D : Finset Key) (f : (cc0_stg2_0 : Ref sig .tc).ty.Contents (Elt F)) : Prop :=
  ∀ k ∈ D, (oM.access (boxR c k)).read (Elt F) f = boxPay m ρ c k

theorem outOk_empty (c : Dev nD) (f : (cc0_stg2_0 : Ref sig .tc).ty.Contents (Elt F)) : OutOk m ρ c ∅ f :=
  fun k hk => absurd hk (Finset.notMem_empty k)

theorem outOk_write (c : Dev nD) (D : Finset Key) (f : (cc0_stg2_0 : Ref sig .tc).ty.Contents (Elt F)) (h : OutOk m ρ c D f) (k : Key) :
    OutOk m ρ c (D ∪ {k}) ((oM.access (boxR c k)).write (Elt F) f (boxPay m ρ c k) Finset.univ) := by
  intro k' hk'
  by_cases e : k' = k
  · subst e; exact View.read_write_univ _ _
  · have hD : k' ∈ D := (Finset.mem_union.mp hk').resolve_right (fun hm => e (Finset.mem_singleton.mp hm))
    rw [← h k' hD]
    exact View.read_congr fun j hj => View.write_of_not_mem _ _ _ (Finset.disjoint_left.mp (boxS_disjoint c k' k e) hj)

/-- Two results whose blocks all hold what the device stores are the same. -/
theorem outOk_unique (c : Dev nD) (f g : (cc0_stg2_0 : Ref sig .tc).ty.Contents (Elt F)) (hf : OutOk m ρ c Finset.univ f) (hg : OutOk m ρ c Finset.univ g) : f = g := by
  funext j
  obtain ⟨k, hk⟩ := boxS_cover c j
  obtain ⟨x, -, rfl⟩ := Finset.mem_map.mp hk
  exact congrFun ((hf k (Finset.mem_univ k)).trans (hg k (Finset.mem_univ k)).symm) x

/-- Storing the blocks of a list. -/
def storeAll (c : Dev nD) : List Key → (cc0_stg2_0 : Ref sig .tc).ty.Contents (Elt F) → (cc0_stg2_0 : Ref sig .tc).ty.Contents (Elt F)
  | [], f => f
  | k :: l, f => storeAll c l ((oM.access (boxR c k)).write (Elt F) f (boxPay m ρ c k) Finset.univ)

theorem storeAll_ok (c : Dev nD) (l : List Key) (D : Finset Key) (f : (cc0_stg2_0 : Ref sig .tc).ty.Contents (Elt F)) (h : OutOk m ρ c D f) :
    OutOk m ρ c (D ∪ l.toFinset) (storeAll m ρ c l f) := by
  induction l generalizing D f with
  | nil => rw [List.toFinset_nil, Finset.union_empty]; exact h
  | cons k l ih =>
    have := ih (D ∪ {k}) _ (outOk_write m ρ c D f h k)
    rw [List.toFinset_cons, Finset.insert_eq, ← Finset.union_assoc]; exact this

/-- Device `c`'s result. -/
def outAt (c : Dev nD) : (cc0_stg2_0 : Ref sig .tc).ty.Contents (Elt F) :=
  storeAll m ρ c (Finset.univ : Finset Key).toList (m ((c : Thread nD τ).loc cc0_stg2_0))

theorem outAt_ok (c : Dev nD) : OutOk m ρ c Finset.univ (outAt m ρ c) := by
  have := storeAll_ok m ρ c (Finset.univ : Finset Key).toList ∅ _ (outOk_empty m ρ c (m ((c : Thread nD τ).loc cc0_stg2_0)))
  rw [Finset.toList_toFinset, Finset.empty_union] at this; exact this

theorem outAt_of (c : Dev nD) (f : (cc0_stg2_0 : Ref sig .tc).ty.Contents (Elt F)) (h : OutOk m ρ c Finset.univ f) : f = outAt m ρ c :=
  outOk_unique m ρ c f _ h (outAt_ok m ρ c)

end Cert.KernelIdeal.Gather
-- ==== Proof.KernelIdeal.Run.lean ====
/-
  Lists of steps. What each step takes and leaves is a list of things held; a check over the lists shows that the whole program can be run
  from what a device starts with, and that no wait comes while something due by then is still owed.
-/
module

public import proofs.«01_k».proof.Proof.KernelIdeal.Steps
public import proofs.«01_k».proof.Proof.KernelIdeal.Result

@[expose] public section
noncomputable section
namespace Cert.KernelIdeal.Gather
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig ℕ (Elt F) ℕ UU ℕ
variable (m : (ℓ : Loc nD τ sig) → Buf (Elt F) ℓ) (ρ : Dev nD → PrngReg)

/-! ## What a step takes and leaves -/

def cons : LOp → List Pkt
  | .start t => [.tok t, .land t, srcPkt t, .spos (slot t) (t.val / 4)]
  | .wrecv t => [.crR t, .rpos (slot t) (t.val / 4)]
  | .wcred t => [.crL t, .lpos (slot t) 0]
  | .wsend t => [.fly t, .spos (slot t) (t.val / 4)]
  | .sig t => [.lh (prev t), .rh (prev t), .tokL (t + 3), .rpos (slot (prev t)) 1]
  | .gemm t => [.rh t]
def prod : LOp → List Pkt
  | .start t => [.fly t, .spos (slot t) (t.val / 4)]
  | .wrecv t => [.rpos (slot t) (t.val / 4 + 1), .lh t, .rh t]
  | .wcred t => [.lpos (slot t) 1, .land t]
  | .wsend t => [.spos (slot t) (t.val / 4 + 1), srcPkt t]
  | .sig t => [.rpos (slot (prev t)) 1]
  | .gemm t => [.rh t]
/-- The steps that occur. -/
def okOp : LOp → Prop
  | .wcred t => 4 ≤ t.val
  | .sig t => 1 ≤ t.val ∧ t.val ≤ 3
  | _ => True
instance (o : LOp) : Decidable (okOp o) := by cases o <;> unfold okOp <;> infer_instance

/-- The blocks that a step stores. -/
def outs : Fin 6 × LOp → Finset Key
  | (i, .gemm t) => {some (i, t)}
  | _ => ∅
/-- What a step pays of what the device owes. -/
def due (c : Dev nD) : Fin 6 × LOp → CellTallies nD τ sig ℕ
  | (i, .start t) => tallyAt (cell (peer i t c) (.recv i (slot t))) (tR i t) (credit i)
  | (i, .sig t) => tallyAt (cell (peer i (t + 3) c) (.leave i (slot (t + 3)))) (tL i (t + 3)) 1
  | _ => 0
/-- The level that a step waits at. -/
def lvW : Fin 6 × LOp → ℕ
  | (i, .wrecv t) => tR i t
  | (i, .wcred t) => tL i t
  | _ => 0
/-- The level of what a step pays. -/
def lvP : Fin 6 × LOp → Option ℕ
  | (i, .start t) => some (tR i t)
  | (i, .sig t) => some (tL i (t + 3))
  | _ => none

/-- Everything of a list, one beside the other. -/
def sepL {α : Type} (Φ : α → sProp 𝕄) : List α → sProp 𝕄
  | [] => iprop(emp)
  | a :: l => iprop(Φ a ∗ sepL Φ l)

theorem sepL_eq {α : Type} [DecidableEq α] (Φ : α → sProp 𝕄) (l : List α) (h : l.Nodup) : bigSep l.toFinset Φ = sepL (F := F) Φ l := by
  induction l with
  | nil => rfl
  | cons a l ih =>
    rw [List.toFinset_cons, bigSep_insert (by rw [List.mem_toFinset]; exact (List.nodup_cons.mp h).1), ih (List.nodup_cons.mp h).2]; rfl

/-- `w` in its staging buffer. -/
def wPts (c : Dev nD) : sProp 𝕄 := wM.view.loc (c : Thread nD τ) ↦[Finset.univ]{fullShare} wstg m ρ c
/-- The result's buffer, the blocks of `D` done. -/
def outSt (c : Dev nD) (D : Finset Key) : sProp 𝕄 :=
  iprop(∃ f : (cc0_stg2_0 : Ref sig .tc).ty.Contents (Elt F), ⌜OutOk m ρ c D f⌝ ∗ (oM.view.loc (c : Thread nD τ) ↦[Finset.univ]{fullShare} f))
/-- The device owes `O`. -/
def owing (c : Dev nD) (O : CellTallies nD τ sig ℕ) : sProp 𝕄 := iprop(∃ W, owes (c : Thread nD τ) O W)

section Step
variable (K : Dev nD × KI → ℕ) (c : Dev nD) (i : Fin 6) (D : Finset Key) (O : CellTallies nD τ sig ℕ) (P : Prg F)

/-- A load from a slot. -/
theorem load_slot (Y : PUnit → sProp 𝕄) (t : Fin 7) (h) (k : ((slotR i (slot t)).toLoadRect.shape.Idx → Elt F .f32) → Prg F) :
    slotPts m ρ fullShare.right c i t ⊢ iprop((slotPts m ρ fullShare.right c i t
      -∗ WP c (k ((bufM i).view.readAt (Elt F) (slotR i (slot t)).toLoadRect (bufC m ρ c i t))) Y)
      -∗ WP c (.op (.load (bufM i) (slotR i (slot t)).toLoadRect h) k) Y) :=
  wp_load_rect 𝒱₀ (c : Thread nD τ) none Set.univ (m := bufM i) (r := slotR i (slot t)) (S := (slotM i (slot t)).view.set) (f := bufC m ρ c i t)
    (by unfold slotM; exact (View.set_reshape _ _).ge)

/-- Multiplying a window by `w` and storing it. -/
theorem step_gemm (Y : PUnit → sProp 𝕄) (t : Fin 7) :
    iprop(pk m ρ c i (.rh t) ∗ wPts m ρ c ∗ outSt m ρ c D)
      ⊢ iprop((pk m ρ c i (.rh t) ∗ wPts m ρ c ∗ outSt m ρ c (D ∪ {some (i, t)}) -∗ WP c P Y) -∗ WP c (eff c i (.gemm t) P) Y) := by
  unfold eff outSt wPts
  dsimp only [pk]
  iintro ⟨Hs, Hw, ⟨%f, %hf, Ho⟩⟩ Hk
  iapply (load_slot m ρ c i Y t) $$ Hs
  iintro Hs
  iapply (wp_load 𝒱₀ (c : Thread nD τ) none Set.univ (m := wM) (Finset.subset_univ _)) $$ Hw
  iintro Hw
  iapply (wp_load 𝒱₀ (c : Thread nD τ) none Set.univ (m := oM) (Finset.subset_univ _)) $$ Ho
  iintro Ho
  iapply (wp_store 𝒱₀ (c : Thread nD τ) none Set.univ (m := oM) (r := boxR c (some (i, t))) (Mk := Finset.univ) (Finset.subset_univ _)) $$ Ho
  iintro Ho
  iapply Hk
  isplitl [Hs]; · iexact Hs
  isplitl [Hw]; · iexact Hw
  iexists (oM.access (boxR c (some (i, t)))).write (Elt F) f (boxPay m ρ c (some (i, t))) Finset.univ
  isplitr; · ipureintro; exact outOk_write m ρ c D f hf (some (i, t))
  iexact Ho

/-- The device's own rows times `w`. -/
theorem own_wp (Y : PUnit → sProp 𝕄) (q : PosShare TreeShare) :
    iprop((xM.view.loc (c : Thread nD τ) ↦[Finset.univ]{q} xstg m ρ c) ∗ wPts m ρ c ∗ outSt m ρ c D)
      ⊢ iprop(((xM.view.loc (c : Thread nD τ) ↦[Finset.univ]{q} xstg m ρ c) ∗ wPts m ρ c ∗ outSt m ρ c (D ∪ {none}) -∗ WP c P Y) -∗ WP c (ownRows c P) Y) := by
  unfold ownRows outSt wPts
  iintro ⟨Hs, Hw, ⟨%f, %hf, Ho⟩⟩ Hk
  iapply (wp_load 𝒱₀ (c : Thread nD τ) none Set.univ (m := xM) (Finset.subset_univ _)) $$ Hs
  iintro Hs
  iapply (wp_load 𝒱₀ (c : Thread nD τ) none Set.univ (m := wM) (Finset.subset_univ _)) $$ Hw
  iintro Hw
  iapply (wp_load 𝒱₀ (c : Thread nD τ) none Set.univ (m := oM) (Finset.subset_univ _)) $$ Ho
  iintro Ho
  iapply (wp_store 𝒱₀ (c : Thread nD τ) none Set.univ (m := oM) (r := boxR c none) (Mk := Finset.univ) (Finset.subset_univ _)) $$ Ho
  iintro Ho
  iapply Hk
  isplitl [Hs]; · iexact Hs
  isplitl [Hw]; · iexact Hw
  iexists (oM.access (boxR c none)).write (Elt F) f (boxPay m ρ c none) Finset.univ
  isplitr; · ipureintro; exact outOk_write m ρ c D f hf none
  iexact Ho

/-- Any step. -/
theorem step_wp (Y : PUnit → sProp 𝕄) (o : LOp) (ho : okOp o) (hO : Above (lvW (i, o)) O) :
    iprop(recs m ρ K ∗ levAts L lv ∗ sepL (pk m ρ c i) (cons o) ∗ owing (F := F) c (O + due c (i, o)) ∗ wPts m ρ c ∗ outSt m ρ c D)
      ⊢ iprop((sepL (pk m ρ c i) (prod o) ∗ owing (F := F) c O ∗ wPts m ρ c ∗ outSt m ρ c (D ∪ outs (i, o)) -∗ WP c P Y) -∗ WP c (eff c i o P) Y) := by
  unfold owing
  cases o with
  | start t =>
    dsimp only [cons, prod, sepL, due, outs]
    rw [Finset.union_empty]
    iintro ⟨#HI, #Hl, ⟨H1, H2, H3, H4, -⟩, ⟨%W, HO⟩, Hw, Ho⟩ Hk
    iapply (step_start m ρ K c i t P O W Y) $$ [H1 H2 H3 H4 HO]
    · isplitr; · iexact HI
      isplitl [H1]; · iexact H1
      isplitl [H2]; · iexact H2
      isplitl [H3]; · iexact H3
      isplitl [H4]; · iexact H4
      iexact HO
    iintro ⟨H1, H2, HO⟩
    iapply Hk
    isplitl [H1 H2]
    · isplitl [H1]; · iexact H1
      isplitl [H2]; · iexact H2
      iempintro
    isplitl [HO]; · iexists W; iexact HO
    isplitl [Hw]; · iexact Hw
    iexact Ho
  | wrecv t =>
    dsimp only [cons, prod, sepL, due, outs]
    rw [Finset.union_empty, add_zero]
    iintro ⟨#HI, #Hl, ⟨H1, H2, -⟩, ⟨%W, HO⟩, Hw, Ho⟩ Hk
    iapply (step_wrecv m ρ K c i t P O W Y hO) $$ [H1 H2 HO]
    · isplitr; · iexact HI
      isplitr; · iexact Hl
      isplitl [H1]; · iexact H1
      isplitl [H2]; · iexact H2
      iexact HO
    iintro ⟨H1, H2, H3, HO⟩
    iapply Hk
    isplitl [H1 H2 H3]
    · isplitl [H1]; · iexact H1
      isplitl [H2]; · iexact H2
      isplitl [H3]; · iexact H3
      iempintro
    isplitl [HO]; · iexists _; iexact HO
    isplitl [Hw]; · iexact Hw
    iexact Ho
  | wcred t =>
    dsimp only [cons, prod, sepL, due, outs]
    rw [Finset.union_empty, add_zero]
    iintro ⟨#HI, #Hl, ⟨H1, H2, -⟩, ⟨%W, HO⟩, Hw, Ho⟩ Hk
    iapply (step_wcred m ρ K c i t P O W Y ho hO) $$ [H1 H2 HO]
    · isplitr; · iexact HI
      isplitr; · iexact Hl
      isplitl [H1]; · iexact H1
      isplitl [H2]; · iexact H2
      iexact HO
    iintro ⟨H1, H2, HO⟩
    iapply Hk
    isplitl [H1 H2]
    · isplitl [H1]; · iexact H1
      isplitl [H2]; · iexact H2
      iempintro
    isplitl [HO]; · iexists _; iexact HO
    isplitl [Hw]; · iexact Hw
    iexact Ho
  | wsend t =>
    dsimp only [cons, prod, sepL, due, outs]
    rw [Finset.union_empty, add_zero]
    iintro ⟨#HI, #Hl, ⟨H1, H2, -⟩, ⟨%W, HO⟩, Hw, Ho⟩ Hk
    iapply (step_wsend m ρ K c i t P O W Y hO) $$ [H1 H2 HO]
    · isplitr; · iexact HI
      isplitr; · iexact Hl
      isplitl [H1]; · iexact H1
      isplitl [H2]; · iexact H2
      iexact HO
    iintro ⟨H1, H2, HO⟩
    iapply Hk
    isplitl [H1 H2]
    · isplitl [H1]; · iexact H1
      isplitl [H2]; · iexact H2
      iempintro
    isplitl [HO]; · iexists _; iexact HO
    isplitl [Hw]; · iexact Hw
    iexact Ho
  | sig t =>
    dsimp only [cons, prod, sepL, due, outs]
    rw [Finset.union_empty]
    iintro ⟨#HI, #Hl, ⟨H1, H2, H3, H4, -⟩, ⟨%W, HO⟩, Hw, Ho⟩ Hk
    iapply (step_sig m ρ K c i t P O W Y ho) $$ [H1 H2 H3 H4 HO]
    · isplitr; · iexact HI
      isplitl [H1]; · iexact H1
      isplitl [H2]; · iexact H2
      isplitl [H3]; · iexact H3
      isplitl [H4]; · iexact H4
      iexact HO
    iintro ⟨H1, HO⟩
    iapply Hk
    isplitl [H1]
    · isplitl [H1]; · iexact H1
      iempintro
    isplitl [HO]; · iexists W; iexact HO
    isplitl [Hw]; · iexact Hw
    iexact Ho
  | gemm t =>
    dsimp only [cons, prod, sepL, due, outs]
    rw [add_zero]
    iintro ⟨#HI, #Hl, ⟨H1, -⟩, HO, Hw, Ho⟩ Hk
    iapply (step_gemm m ρ c i D P Y t) $$ [H1 Hw Ho]
    · isplitl [H1]; · iexact H1
      isplitl [Hw]; · iexact Hw
      iexact Ho
    iintro ⟨H1, Hw, Ho⟩
    iapply Hk
    isplitl [H1]
    · isplitl [H1]; · iexact H1
      iempintro
    isplitl [HO]; · iexact HO
    isplitl [Hw]; · iexact Hw
    iexact Ho

end Step

/-! ## Lists of steps -/

/-- What a device owes for a list of steps. -/
def dues (c : Dev nD) : List (Fin 6 × LOp) → CellTallies nD τ sig ℕ
  | [] => 0
  | p :: l => dues c l + due c p

/-- What remains held after a step, if it can be taken. -/
def after (o : LOp) (S : Finset Pkt) : Finset Pkt := (S \ (cons o).toFinset) ∪ (prod o).toFinset
def Fits (o : LOp) (S : Finset Pkt) : Prop :=
  okOp o ∧ (cons o).Nodup ∧ (∀ p ∈ cons o, p ∈ S) ∧ (prod o).Nodup ∧ ∀ p ∈ prod o, p ∉ S \ (cons o).toFinset
instance (o : LOp) (S : Finset Pkt) : Decidable (Fits o S) := by unfold Fits; infer_instance
/-- A path's steps take it from holding `S` to holding `S'`. -/
def Runs : List LOp → Finset Pkt → Finset Pkt → Prop
  | [], S, S' => S = S'
  | o :: l, S, S' => Fits o S ∧ Runs l (after o S) S'
instance Runs.dec : (l : List LOp) → (S S' : Finset Pkt) → Decidable (Runs l S S')
  | [], S, S' => inferInstanceAs (Decidable (S = S'))
  | o :: l, S, S' => @instDecidableAnd _ _ inferInstance (Runs.dec l (after o S) S')

/-- The steps of one path. -/
def proj (i : Fin 6) : List (Fin 6 × LOp) → List LOp
  | [] => []
  | (j, o) :: l => if j = i then o :: proj i l else proj i l

/-- Each wait is below everything paid later. -/
def Timely : List (Fin 6 × LOp) → Bool
  | [] => true
  | p :: l => l.all (fun q => match lvP q with | some n => decide (lvW p < n) | none => true) && Timely l

theorem due_pos {c : Dev nD} {p : Fin 6 × LOp} {g : GSem nD τ sig} {k : ℕ} (h : 0 < due c p g k) : g.1.2 = .tc ∧ lvP p = some k ∧ k < 1000 := by
  obtain ⟨i, o⟩ := p
  have hz : ∀ (g' : GSem nD τ sig) (n N : ℕ), 0 < tallyAt g' n N g k → g = g' ∧ k = n := by
    intro g' n N hp
    rw [tallyAt_apply] at hp
    by_contra hne
    rw [if_neg hne] at hp
    exact Nat.lt_irrefl 0 hp
  cases o with
  | start t =>
    obtain ⟨rfl, rfl⟩ := hz _ _ _ h
    exact ⟨rfl, rfl, by unfold tR; omega⟩
  | sig t =>
    obtain ⟨rfl, rfl⟩ := hz _ _ _ h
    exact ⟨rfl, rfl, by unfold tL; omega⟩
  | _ => exact absurd h (Nat.lt_irrefl 0)

theorem dues_pos {c : Dev nD} {l : List (Fin 6 × LOp)} {g : GSem nD τ sig} {k : ℕ} (h : 0 < dues c l g k) : g.1.2 = .tc ∧ (∃ p ∈ l, lvP p = some k) ∧ k < 1000 := by
  induction l with
  | nil => exact absurd h (Nat.lt_irrefl 0)
  | cons p l ih =>
    have h' : 0 < dues c l g k + due c p g k := h
    rcases Nat.eq_zero_or_pos (dues c l g k) with h0 | h0
    · obtain ⟨a, b, d⟩ := due_pos (c := c) (p := p) (g := g) (k := k) (by omega)
      exact ⟨a, ⟨p, List.mem_cons_self, b⟩, d⟩
    · obtain ⟨a, ⟨q, hq, hb⟩, d⟩ := ih h0
      exact ⟨a, ⟨q, List.mem_cons_of_mem _ hq, hb⟩, d⟩

theorem mem_L_of {g : GSem nD τ sig} {k : ℕ} (h : g.1.2 = .tc) (hk : k < 1000) : k ∈ L g := by
  unfold L; rw [if_pos h]; exact Finset.mem_range.mpr hk

theorem above_of_timely {c : Dev nD} {p : Fin 6 × LOp} {l : List (Fin 6 × LOp)} (h : Timely (p :: l) = true) : Above (lvW p) (dues c l) := by
  intro g k hg
  obtain ⟨a, ⟨q, hq, hb⟩, d⟩ := dues_pos hg
  refine ⟨mem_L_of a d, ?_⟩
  have h1 := (Bool.and_eq_true_iff.mp h).1
  have h2 := List.all_eq_true.mp h1 q hq
  rw [hb] at h2
  exact of_decide_eq_true h2

/-- What a device holds of all paths. -/
def St (c : Dev nD) (S : Fin 6 → Finset Pkt) : sProp 𝕄 := bigSep Finset.univ fun i => bigSep (S i) (pk m ρ c i)

/-- Taking a step's things out of what is held, and putting back what it leaves. -/
theorem st_step (c : Dev nD) (S : Fin 6 → Finset Pkt) (i : Fin 6) (o : LOp) (h : Fits o (S i)) :
    St m ρ c S ⊢ iprop(sepL (pk m ρ c i) (cons o) ∗ (sepL (pk m ρ c i) (prod o) -∗ St m ρ c (Function.update S i (after o (S i))))) := by
  obtain ⟨-, h1, h2, h3, h4⟩ := h
  have hs : (cons o).toFinset ⊆ S i := fun p hp => h2 p (List.mem_toFinset.mp hp)
  have hd : Disjoint (S i \ (cons o).toFinset) (prod o).toFinset := Finset.disjoint_right.mpr fun p hp => h4 p (List.mem_toFinset.mp hp)
  unfold St
  refine (bigSep_univ_update (Φ := fun j => bigSep (S j) (pk m ρ c j)) (Ψ := fun j => bigSep (Function.update S i (after o (S i)) j) (pk m ρ c j)) i
    (fun j hj => by rw [Function.update_of_ne hj])).trans ?_
  rw [Function.update_self, bigSep_sdiff_split hs, after, bigSep_union hd, sepL_eq _ _ h1, sepL_eq _ _ h3]
  show iprop((sepL (pk m ρ c i) (cons o) ∗ bigSep (S i \ (cons o).toFinset) (pk m ρ c i))
    ∗ ((bigSep (S i \ (cons o).toFinset) (pk m ρ c i) ∗ sepL (pk m ρ c i) (prod o)) -∗ _)) ⊢ _
  iintro ⟨⟨H1, H2⟩, Hk⟩
  isplitl [H1]; · iexact H1
  iintro H3
  iapply Hk
  isplitl [H2]; · iexact H2
  iexact H3

/-- The blocks that a list of steps stores. -/
def outsL : List (Fin 6 × LOp) → Finset Key
  | [] => ∅
  | p :: l => outs p ∪ outsL l

/-- A list of steps. -/
theorem run_wp (K : Dev nD × KI → ℕ) (c : Dev nD) (l l' : List (Fin 6 × LOp)) (S S' : Fin 6 → Finset Pkt) (h : ∀ i, Runs (proj i l) (S i) (S' i))
    (hT : Timely (l ++ l') = true) (D : Finset Key) (P : Prg F) (Y : PUnit → sProp 𝕄) :
    iprop(recs m ρ K ∗ levAts L lv ∗ St m ρ c S ∗ owing (F := F) c (dues c (l ++ l')) ∗ wPts m ρ c ∗ outSt m ρ c D)
      ⊢ iprop((St m ρ c S' ∗ owing (F := F) c (dues c l') ∗ wPts m ρ c ∗ outSt m ρ c (D ∪ outsL l) -∗ WP c P Y) -∗ WP c (run c l P) Y) := by
  induction l generalizing S D with
  | nil =>
    have : S = S' := funext fun i => h i
    subst this
    unfold run outsL
    rw [List.nil_append, Finset.union_empty]
    iintro ⟨-, -, HS, HO, Hw, Ho⟩ Hk
    iapply Hk
    isplitl [HS]; · iexact HS
    isplitl [HO]; · iexact HO
    isplitl [Hw]; · iexact Hw
    iexact Ho
  | cons p l ih =>
    obtain ⟨i, o⟩ := p
    have hi : Fits o (S i) ∧ Runs (proj i l) (after o (S i)) (S' i) := by
      have := h i; unfold proj at this; rw [if_pos rfl] at this; exact this
    have hrest : ∀ j, Runs (proj j l) (Function.update S i (after o (S i)) j) (S' j) := by
      intro j
      by_cases e : j = i
      · subst e; rw [Function.update_self]; exact hi.2
      · rw [Function.update_of_ne e]; have := h j; unfold proj at this; rw [if_neg (fun e' => e e'.symm)] at this; exact this
    have hT' : Timely (l ++ l') = true := (Bool.and_eq_true_iff.mp hT).2
    have ihl := ih (Function.update S i (after o (S i))) hrest hT' (D ∪ outs (i, o))
    unfold run outsL
    rw [← Finset.union_assoc]
    iintro ⟨#HI, #Hl, HS, HO, Hw, Ho⟩ Hk
    ihave HS' := (st_step m ρ c S i o hi.1) $$ HS
    icases HS' with ⟨Hc, HS⟩
    iapply (step_wp m ρ K c i D (dues c (l ++ l')) (run c l P) Y o hi.1.1 (above_of_timely hT)) $$ [Hc HO Hw Ho]
    · isplitr; · iexact HI
      isplitr; · iexact Hl
      isplitl [Hc]; · iexact Hc
      isplitl [HO]; · iexact HO
      isplitl [Hw]; · iexact Hw
      iexact Ho
    iintro ⟨Hp, HO, Hw, Ho⟩
    ihave HS := HS $$ Hp
    iapply ihl $$ [HS HO Hw Ho]
    · isplitr; · iexact HI
      isplitr; · iexact Hl
      isplitl [HS]; · iexact HS
      isplitl [HO]; · iexact HO
      isplitl [Hw]; · iexact Hw
      iexact Ho
    iexact Hk

end Cert.KernelIdeal.Gather
-- ==== Proof.KernelIdeal.Held.lean ====
/-
  What a device holds of a path at the start and at the end, that the program's steps lead from the one to the other, and how the buffers
  come apart into slots and rows.
-/
module

public import proofs.«01_k».proof.Proof.KernelIdeal.Run
public import Idealize.ShloMosaic.Lib.Ring

@[expose] public section
noncomputable section
namespace Cert.KernelIdeal.Gather
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig ℕ (Elt F) ℕ UU ℕ
variable (m : (ℓ : Loc nD τ sig) → Buf (Elt F) ℓ) (ρ : Dev nD → PrngReg)

/-! ## The start, the end, and between the two lists of steps -/

/-- The three steps that need a leave. -/
def lt (k : Fin 3) : Fin 7 := ⟨k.val + 4, by omega⟩
/-- The last step that fills slot `s`, and the rounds that a device has come to at the end. -/
def late : Fin 4 → Fin 7 := ![4, 5, 6, 3]
def endR : Fin 4 → ℕ := ![2, 2, 2, 1]
def endL : Fin 4 → ℕ := ![1, 1, 1, 0]

def startSet : Finset Pkt :=
  Finset.univ.image Pkt.tok ∪ (Finset.univ.image (fun s : Fin 4 => Pkt.land (stp s 0)) ∪ ({Pkt.rows}
    ∪ (Finset.univ.image (fun s : Fin 4 => Pkt.spos s 0) ∪ (Finset.univ.image (fun s : Fin 4 => Pkt.rpos s 0) ∪ (Finset.univ.image (fun s : Fin 4 => Pkt.lpos s 0)
    ∪ (Finset.univ.image Pkt.crR ∪ (Finset.univ.image (fun k => Pkt.crL (lt k)) ∪ Finset.univ.image (fun k => Pkt.tokL (lt k)))))))))
def endSet : Finset Pkt :=
  {Pkt.rows} ∪ (Finset.univ.image (fun s => Pkt.lh (late s)) ∪ (Finset.univ.image (fun s => Pkt.rh (late s))
    ∪ (Finset.univ.image (fun s : Fin 4 => Pkt.spos s (endR s)) ∪ (Finset.univ.image (fun s : Fin 4 => Pkt.rpos s (endR s))
    ∪ Finset.univ.image (fun s : Fin 4 => Pkt.lpos s (endL s))))))
def midSet : Finset Pkt := after (.start 0) startSet

theorem runs_starts (i : Fin 6) : Runs (proj i starts) startSet midSet := by revert i; decide +kernel
theorem runs_iters (i : Fin 6) : Runs (proj i iters) midSet endSet := by revert i; decide +kernel
theorem timely_all : Timely (starts ++ iters) = true := by decide +kernel
theorem timely_iters : Timely (iters ++ []) = true := by decide +kernel
theorem outs_starts : outsL starts = ∅ := by decide +kernel
theorem outs_iters : {none} ∪ outsL iters = (Finset.univ : Finset Key) := by decide +kernel
/-- Everything owed for the steps is due after the barrier. -/
theorem level_all : ∀ p ∈ starts ++ iters, ∀ n, lvP p = some n → 1 < n := by
  have h : (starts ++ iters).all (fun p => match lvP p with | some n => decide (1 < n) | none => true) = true := by decide +kernel
  intro p hp n hn
  have := List.all_eq_true.mp h p hp
  rw [hn] at this
  exact of_decide_eq_true this

section Sets
theorem image_eq (Φ : Pkt → sProp 𝕄) {α : Type} [DecidableEq α] [Fintype α] (f : α → Pkt) (h : Function.Injective f) :
    bigSep (Finset.univ.image f) Φ = bigSep Finset.univ fun a => Φ (f a) := bigSep_image_of_injOn h.injOn Φ

theorem start_eq (Φ : Pkt → sProp 𝕄) : bigSep startSet Φ = iprop(bigSep Finset.univ (fun t => Φ (.tok t)) ∗ bigSep Finset.univ (fun s : Fin 4 => Φ (.land (stp s 0))) ∗ Φ .rows
    ∗ bigSep Finset.univ (fun s : Fin 4 => Φ (.spos s 0)) ∗ bigSep Finset.univ (fun s : Fin 4 => Φ (.rpos s 0)) ∗ bigSep Finset.univ (fun s : Fin 4 => Φ (.lpos s 0))
    ∗ bigSep Finset.univ (fun t => Φ (.crR t)) ∗ bigSep Finset.univ (fun k : Fin 3 => Φ (.crL (lt k))) ∗ bigSep Finset.univ (fun k : Fin 3 => Φ (.tokL (lt k)))) := by
  unfold startSet
  rw [bigSep_union (by decide +kernel), bigSep_union (by decide +kernel), bigSep_union (by decide +kernel), bigSep_union (by decide +kernel),
    bigSep_union (by decide +kernel), bigSep_union (by decide +kernel), bigSep_union (by decide +kernel), bigSep_union (by decide +kernel), bigSep_singleton,
    image_eq Φ _ (by decide +kernel), image_eq Φ _ (by decide +kernel), image_eq Φ _ (by decide +kernel), image_eq Φ _ (by decide +kernel),
    image_eq Φ _ (by decide +kernel), image_eq Φ _ (by decide +kernel), image_eq Φ _ (by decide +kernel), image_eq Φ _ (by decide +kernel)]
  rfl
theorem end_eq (Φ : Pkt → sProp 𝕄) : bigSep endSet Φ = iprop(Φ .rows ∗ bigSep Finset.univ (fun s : Fin 4 => Φ (.lh (late s))) ∗ bigSep Finset.univ (fun s : Fin 4 => Φ (.rh (late s)))
    ∗ bigSep Finset.univ (fun s : Fin 4 => Φ (.spos s (endR s))) ∗ bigSep Finset.univ (fun s : Fin 4 => Φ (.rpos s (endR s)))
    ∗ bigSep Finset.univ (fun s : Fin 4 => Φ (.lpos s (endL s)))) := by
  unfold endSet
  rw [bigSep_union (by decide +kernel), bigSep_union (by decide +kernel), bigSep_union (by decide +kernel), bigSep_union (by decide +kernel),
    bigSep_union (by decide +kernel), bigSep_singleton,
    image_eq Φ _ (by decide +kernel), image_eq Φ _ (by decide +kernel), image_eq Φ _ (by decide +kernel), image_eq Φ _ (by decide +kernel),
    image_eq Φ _ (by decide +kernel)]
  rfl
end Sets

/-! ## Families over a device's cells -/

theorem ki_eq (Φ : KI → sProp 𝕄) : bigSep Finset.univ Φ
    = iprop(Φ none ∗ bigSep Finset.univ (fun p : Fin 6 × Fin 4 => Φ (some (0, p))) ∗ bigSep Finset.univ (fun p : Fin 6 × Fin 4 => Φ (some (1, p)))
      ∗ bigSep Finset.univ (fun p : Fin 6 × Fin 4 => Φ (some (2, p)))) := by
  have h : (Finset.univ : Finset KI) = insert none (Finset.univ.image some) := by decide +kernel
  rw [h, bigSep_insert (by decide +kernel), bigSep_image_of_injOn (Option.some_injective _).injOn, bigSep_univ_prod,
    bigSep_univ_eq_bigSepL [0, 1, 2] (by decide) (by decide)]
  rfl

/-! ## Slots and rows -/

/-- Path `i`'s buffer, with anything in it. -/
def bufAny (c : Dev nD) (i : Fin 6) : sProp 𝕄 := iprop(∃ f, (bufM i).view.loc (c : Thread nD τ) ↦[Finset.univ]{fullShare} f)

theorem slot_set (i : Fin 6) (s : Fin 4) : (slotM i s).view.set = ((bufM i).view.slice (slotR i s)).set := by
  unfold slotM; exact View.set_reshape _ _

theorem mem_slot (i : Fin 6) (s : Fin 4) (j : (Sbuf i).Idx) : j ∈ (slotR i s).set ↔ (j 0).val = s.val := by
  rw [Rect.mem_set_unit]
  have h1 : (j 1).val < nrows i := (j 1).isLt
  have h2 : (j 2).val < 4096 := (j 2).isLt
  constructor
  · intro h; have h0 : s.val ≤ (j 0).val ∧ (j 0).val < s.val + 1 := h 0; omega
  · intro h a
    match a with
    | ⟨0, _⟩ => exact ⟨h.ge, by show (j 0).val < s.val + 1; omega⟩
    | ⟨1, _⟩ => exact ⟨Nat.zero_le _, by show (j 1).val < 0 + nrows i; omega⟩
    | ⟨2, _⟩ => exact ⟨Nat.zero_le _, by show (j 2).val < 0 + 4096; omega⟩

theorem buf_set (i : Fin 6) : (bufM i).view.set = Finset.univ := by
  match i with
  | 0 => exact View.set_whole _
  | 1 => exact View.set_whole _
  | 2 => exact View.set_whole _
  | 3 => exact View.set_whole _
  | 4 => exact View.set_whole _
  | 5 => exact View.set_whole _

/-- The elements of slot `s` in path `i`'s buffer. -/
abbrev slotI (c : Dev nD) (i : Fin 6) (s : Fin 4) : Finset (Idx ((bufM i).view.loc (c : Thread nD τ))) := ((bufM i).view.slice (slotR i s)).set

theorem slots_disjoint (c : Dev nD) (i : Fin 6) (s s' : Fin 4) (h : s ≠ s') : Disjoint (slotI c i s) (slotI c i s') := by
  unfold slotI
  rw [View.set_slice, View.set_slice, Finset.disjoint_map, Finset.disjoint_left]
  intro j h1 h2
  exact h (Fin.ext (((mem_slot i s j).mp h1).symm.trans ((mem_slot i s' j).mp h2)))
theorem slots_cover (c : Dev nD) (i : Fin 6) : Finset.univ.biUnion (slotI c i) = Finset.univ := by
  refine Finset.eq_univ_iff_forall.mpr fun j => ?_
  have hj : j ∈ (bufM i).view.set := by rw [buf_set]; exact Finset.mem_univ j
  obtain ⟨j', -, rfl⟩ := Finset.mem_map.mp hj
  refine Finset.mem_biUnion.mpr ⟨⟨(j' 0).val, (j' 0).isLt⟩, Finset.mem_univ _, ?_⟩
  unfold slotI; rw [View.set_slice]
  exact Finset.mem_map_of_mem _ ((mem_slot i _ j').mpr rfl)

/-- A slot as a part of the path's buffer. -/
theorem freeSlot_eq (c : Dev nD) (i : Fin 6) (s : Fin 4) : freeSlot (F := F) c i s
    = iprop(∃ f, (bufM i).view.loc (c : Thread nD τ) ↦[slotI c i s]{fullShare} f) := by
  unfold freeSlot; rw [slot_set]; rfl

theorem buf_slots (c : Dev nD) (i : Fin 6) : bufAny (F := F) c i ⊢ bigSep Finset.univ fun s => freeSlot (F := F) c i s := by
  unfold bufAny
  have h : ∀ f, ((bufM i).view.loc (c : Thread nD τ) ↦[Finset.univ]{fullShare} f : sProp 𝕄) ⊢ bigSep Finset.univ fun s => freeSlot (F := F) c i s := fun f =>
    (Entails.of_eq (Ring.pointsTo_blocks (slotI c i) (slots_disjoint c i) (slots_cover c i) f)).trans (bigSep_mono fun s _ => by
      rw [freeSlot_eq]
      show ((bufM i).view.loc (c : Thread nD τ) ↦[slotI c i s]{fullShare} f : sProp 𝕄) ⊢ iprop(∃ f, (bufM i).view.loc (c : Thread nD τ) ↦[slotI c i s]{fullShare} f)
      iintro H; iexists f; iexact H)
  iintro ⟨%f, H⟩
  iapply (h f) $$ H

theorem slots_buf (c : Dev nD) (i : Fin 6) (f₀ : Buf (Elt F) ((bufM i).view.loc (c : Thread nD τ))) : (bigSep Finset.univ fun s => freeSlot (F := F) c i s) ⊢ bufAny (F := F) c i := by
  rw [bigSep_congr fun s _ => freeSlot_eq c i s]
  exact Ring.pointsTo_blocks_join_exists (slotI c i) (slots_disjoint c i) (slots_cover c i) f₀

abbrev rowsR (i : Fin 6) : Rect S512x4096 := Rect.unit (s := S512x4096) ![row0 i, 0] (Srow i).size (inb_rows i)
theorem rows_set (i : Fin 6) : (rowsM i).view.set = (rowsR i).set := View.set_slice_whole cc0_stg0_0 (rowsR i)
theorem mem_rows (i : Fin 6) (j : S512x4096.Idx) : j ∈ (rowsR i).set ↔ row0 i ≤ (j 0).val ∧ (j 0).val < row0 i + nrows i := by
  rw [Rect.mem_set_unit]
  have h1 : (j 1).val < 4096 := (j 1).isLt
  constructor
  · intro h; exact h 0
  · intro h a
    match a with
    | ⟨0, _⟩ => exact h
    | ⟨1, _⟩ => exact ⟨Nat.zero_le _, by show (j 1).val < 0 + 4096; omega⟩
theorem rows_disjoint (i i' : Fin 6) (h : i ≠ i') : Disjoint (rowsR i).set (rowsR i').set := by
  have key : ∀ i i' : Fin 6, i ≠ i' → row0 i + nrows i ≤ row0 i' ∨ row0 i' + nrows i' ≤ row0 i := by decide +kernel
  rw [Finset.disjoint_left]
  intro j h1 h2
  have h1 := (mem_rows i j).mp h1
  have h2 := (mem_rows i' j).mp h2
  have := key i i' h
  omega
theorem rows_cover : Finset.univ.biUnion (fun i => (rowsR i).set) = Finset.univ := by
  refine Finset.eq_univ_iff_forall.mpr fun j => ?_
  refine Finset.mem_biUnion.mpr ⟨pathAt (j 0).val, Finset.mem_univ _, (mem_rows _ j).mpr (pathAt_spec _ (j 0).isLt)⟩

/-- The device's block of `x` in its staging buffer, at the share `q`. -/
def xPts (q : PosShare TreeShare) (c : Dev nD) : sProp 𝕄 := xM.view.loc (c : Thread nD τ) ↦[Finset.univ]{q} xstg m ρ c

theorem xPts_rows (q : PosShare TreeShare) (c : Dev nD) : xPts m ρ q c = bigSep Finset.univ fun i => rowsPts m ρ q c i := by
  refine (Ring.pointsTo_blocks (ℓ := xM.view.loc (c : Thread nD τ)) (fun i => (rowsR i).set) rows_disjoint rows_cover (xstg m ρ c)).trans (bigSep_congr fun i _ => ?_)
  unfold rowsPts; rw [rows_set]; rfl

theorem xPts_halves (c : Dev nD) : xPts m ρ fullShare c ⊣⊢ iprop(xPts m ρ fullShare.left c ∗ xPts m ρ fullShare.right c) :=
  pointsTo_share (PosShare.mem_left_op_right fullShare)

end Cert.KernelIdeal.Gather
-- ==== Proof.KernelIdeal.Body.lean ====
/-
  The whole body on one device: the entry barrier, the first copies, the device's own rows, the seven iterations, and the cells closed at the end.
-/
module

public import proofs.«01_k».proof.Proof.KernelIdeal.Held

@[expose] public section
noncomputable section
namespace Cert.KernelIdeal.Gather
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig ℕ (Elt F) ℕ UU ℕ
variable (m : (ℓ : Loc nD τ sig) → Buf (Elt F) ℓ) (ρ : Dev nD → PrngReg)

/-! ## What a device starts from -/

/-- The duties that device `c` pays: one at each neighbour's barrier cell, and those of its copies and of the leaves it gives. -/
def payToks (c : Dev nD) : sProp 𝕄 :=
  iprop((bigSep Finset.univ fun b : Fin 3 => dutyTok ER (cell (nb b c) .bar) 0 b)
    ∗ (bigSep Finset.univ fun p : Fin 6 × Fin 7 => dutyTok ER (cell c (.send p.1 (slot p.2))) (p.2.val / 4) 0)
    ∗ (bigSep Finset.univ fun p : Fin 6 × Fin 7 => dutyTok ER (cell (peer p.1 p.2 c) (.recv p.1 (slot p.2))) (p.2.val / 4) 0)
    ∗ (bigSep Finset.univ fun p : Fin 6 × Fin 3 => dutyTok ER (cell (peer p.1 (lt p.2) c) (.leave p.1 (slot (lt p.2)))) 0 0))
/-- The rounds that a device has come to at its own cells. -/
def atAll (c : Dev nD) (R : KI → ℕ) : sProp 𝕄 := bigSep Finset.univ fun k : KI => atPos ER (cell c (kd k)) (R k) ∅ 0
/-- The rights to wait. -/
def creds (c : Dev nD) : sProp 𝕄 :=
  iprop(cred (tallyAt (cell c .bar) 1 3)
    ∗ (bigSep Finset.univ fun p : Fin 6 × Fin 7 => cred (tallyAt (cell c (.recv p.1 (slot p.2))) (tR p.1 p.2) (credit p.1)))
    ∗ (bigSep Finset.univ fun p : Fin 6 × Fin 3 => cred (tallyAt (cell c (.leave p.1 (slot (lt p.2)))) (tL p.1 (lt p.2)) 1)))

/-- The unit owed to the neighbour across bit `b`. -/
def barDue (c : Dev nD) (b : Fin 3) : CellTallies nD τ sig ℕ := tallyAt (cell (nb b c) .bar) 1 1
/-- All that a device owes. -/
def O₀ (c : Dev nD) : CellTallies nD τ sig ℕ := dues c (starts ++ iters) + barDue c 2 + barDue c 1 + barDue c 0

theorem nested {α β : Type} [Fintype α] [Fintype β] (Φ : α → β → sProp 𝕄) :
    (bigSep Finset.univ fun a => bigSep Finset.univ fun b => Φ a b) = bigSep Finset.univ fun p : α × β => Φ p.1 p.2 :=
  (bigSep_univ_prod fun p : α × β => Φ p.1 p.2).symm

section
variable (K : Dev nD × KI → ℕ) (c : Dev nD)

theorem pos_reached (a : Fin 3) (Ψ : Fin 6 × Fin 4 → sProp 𝕄)
    (h : ∀ p, Ψ p = iprop(atPos ER (cell c (kd (some (a, p)))) 0 ∅ 0 ∗ reached ER (cell c (kd (some (a, p)))) 0)) :
    iprop(recs m ρ K ∗ bigSep Finset.univ fun p : Fin 6 × Fin 4 => atPos ER (cell c (kd (some (a, p)))) 0 ∅ 0) ⊢ bigSep Finset.univ Ψ := by
  refine bigSep_with_persistent fun p _ => ?_
  rw [h]
  iintro ⟨#HI, H⟩
  isplitl [H]; · iexact H
  iapply (recs_reached m ρ K c (some (a, p))); iexact HI

/-- What a device holds when it has passed the barrier. -/
theorem st_start :
    iprop(recs m ρ K
      ∗ (bigSep Finset.univ fun p : Fin 6 × Fin 7 => dutyTok ER (cell c (.send p.1 (slot p.2))) (p.2.val / 4) 0)
      ∗ (bigSep Finset.univ fun p : Fin 6 × Fin 7 => dutyTok ER (cell (peer p.1 p.2 c) (.recv p.1 (slot p.2))) (p.2.val / 4) 0)
      ∗ (bigSep Finset.univ fun p : Fin 6 × Fin 3 => dutyTok ER (cell (peer p.1 (lt p.2) c) (.leave p.1 (slot (lt p.2)))) 0 0)
      ∗ (bigSep Finset.univ fun p : Fin 6 × Fin 4 => land (F := F) c p.1 (stp p.2 0))
      ∗ xPts m ρ fullShare.left c
      ∗ (bigSep Finset.univ fun p : Fin 6 × Fin 4 => atPos ER (cell c (kd (some (0, p)))) 0 ∅ 0)
      ∗ (bigSep Finset.univ fun p : Fin 6 × Fin 4 => atPos ER (cell c (kd (some (1, p)))) 0 ∅ 0)
      ∗ (bigSep Finset.univ fun p : Fin 6 × Fin 4 => atPos ER (cell c (kd (some (2, p)))) 0 ∅ 0)
      ∗ (bigSep Finset.univ fun p : Fin 6 × Fin 7 => cred (tallyAt (cell c (.recv p.1 (slot p.2))) (tR p.1 p.2) (credit p.1)))
      ∗ (bigSep Finset.univ fun p : Fin 6 × Fin 3 => cred (tallyAt (cell c (.leave p.1 (slot (lt p.2)))) (tL p.1 (lt p.2)) 1)))
      ⊢ St m ρ c fun _ => startSet := by
  unfold St
  rw [bigSep_congr fun i _ => start_eq (pk m ρ c i)]
  dsimp only [pk]
  rw [bigSep_sep', bigSep_sep', bigSep_sep', bigSep_sep', bigSep_sep', bigSep_sep', bigSep_sep', bigSep_sep', ← xPts_rows]
  simp only [nested]
  rw [bigSep_sep']
  iintro ⟨#HI, T1, T2, T3, Hl, Hx, P0, P1, P2, C1, C2⟩
  isplitl [T1 T2]
  · isplitl [T1]; · iexact T1
    iexact T2
  isplitl [Hl]; · iexact Hl
  isplitl [Hx]; · iexact Hx
  isplitl [P0]
  · iapply (pos_reached m ρ K c 0 _ fun p => rfl) $$ [P0]
    isplitr; · iexact HI
    iexact P0
  isplitl [P1]
  · iapply (pos_reached m ρ K c 1 _ fun p => rfl) $$ [P1]
    isplitr; · iexact HI
    iexact P1
  isplitl [P2]; · iexact P2
  isplitl [C1]; · iexact C1
  isplitl [C2]; · iexact C2
  iexact T3

/-! ## The barrier -/

theorem across_eq (Φ : Fin 6 × Fin 4 → sProp 𝕄) :
    bigSep Finset.univ Φ = iprop(bigSep (across 0) Φ ∗ bigSep (across 1) Φ ∗ bigSep (across 2) Φ) := by
  rw [show (Finset.univ : Finset (Fin 6 × Fin 4)) = across 0 ∪ (across 1 ∪ across 2) from by decide +kernel,
    bigSep_union (by decide +kernel), bigSep_union (by decide +kernel)]
  rfl

theorem stp0 (s : Fin 4) : slot (stp s 0) = s ∧ (stp s 0).val / 4 = 0 := by revert s; decide +kernel

/-- One entry signal: the device hands its slots to the neighbour across bit `b`. -/
theorem bar_signal (b : Fin 3) (n : Dev nD) (hn : n = nb b c) (P : Prg F) (O : CellTallies nD τ sig ℕ) (W : Waits sig ℕ) (Y : PUnit → sProp 𝕄) :
    iprop(recs m ρ K ∗ dutyTok ER (cell (nb b c) .bar) 0 b ∗ (bigSep (across b) fun p => freeSlot (F := F) c p.1 p.2)
        ∗ owes (c : Thread nD τ) (O + barDue c b) W)
      ⊢ iprop((owes (c : Thread nD τ) O W -∗ WP c P Y) -∗ WP c (.op (.semSignal (n, .tc) barS (1#32).toInt) fun _ => P) Y) := by
  subst hn
  unfold barDue
  iintro ⟨#HI, Ht, Hf, HO⟩ Hk
  iapply (Rounds.wp_signal 𝒱₀ ER (Rd m ρ) (c : Thread nD τ) none (dst := (nb b c : Thread nD τ)) (sem := barS)
      (κ := K (nb b c, none)) (r := 0) (d := b)
      (by rw [show ((nb b c : Thread nD τ), SemLoc.reg barS) = cell (nb b c) .bar from rfl, duties_cell]; exact Finset.mem_univ _)
      ((amount_cell m ρ (nb b c) .bar 0 b).trans (by show 1 = _; decide)) 1 O rfl (W := W)) $$ [Ht Hf HO]
  · isplitr; · iapply (recs_inv m ρ K (nb b c) none); iexact HI
    isplitl [HO]; · iexact HO
    isplitl [Ht]; · iexact Ht
    isplitl [Hf]
    · rw [show ((nb b c : Thread nD τ), SemLoc.reg barS) = cell (nb b c) .bar from rfl, payload_cell, payK_bar]
      unfold barPay
      iapply (bigSep_with_persistent (R := recs m ρ K) (S := across b) (Φ := fun p => freeSlot (F := F) c p.1 p.2)
        (Ψ := fun p => land (F := F) (nb b c) p.1 (stp p.2 0)) (fun p hp => show iprop(recs m ρ K ∗ freeSlot (F := F) c p.1 p.2) ⊢ land (F := F) (nb b c) p.1 (stp p.2 0) from by
          have hb : bit p.1 p.2 = b := (Finset.mem_filter.mp hp).2
          have hpeer : peer p.1 (stp p.2 0) (nb b c) = c := by unfold peer; rw [(stp0 p.2).1, hb, nb_nb]
          unfold Gather.land
          rw [hpeer, (stp0 p.2).1, (stp0 p.2).2]
          iintro ⟨#HI, H⟩
          isplitl [H]; · iexact H
          iapply (recs_reached m ρ K c (some (1, p))); iexact HI))
      isplitr; · iexact HI
      iexact Hf
    iapply (recs_reached m ρ K (nb b c) none); iexact HI
  iintro HO
  iapply Hk
  iexact HO

theorem above_bar : Above 1 (dues c (starts ++ iters)) := by
  intro g k hg
  obtain ⟨a, ⟨q, hq, hb⟩, d⟩ := dues_pos hg
  exact ⟨mem_L_of a d, level_all q hq k hb⟩

theorem rest_bar : bigSep ((Rd (F := F) m ρ).duties ((c : Thread nD τ), SemLoc.reg barS) 0 \ ∅) (fun d => (Rd (F := F) m ρ).payload ((c : Thread nD τ), SemLoc.reg barS) 0 d)
    = bigSep Finset.univ fun p : Fin 6 × Fin 4 => land (F := F) c p.1 (stp p.2 0) := by
  rw [show ((c : Thread nD τ), SemLoc.reg barS) = cell c .bar from rfl]
  rw [Finset.sdiff_empty, duties_cell, across_eq, bigSep_congr fun d _ => payload_cell m ρ c .bar 0 d]
  exact bigSep_univ_eq_bigSepL [0, 1, 2] (by decide) (by decide) _

/-- The entry barrier. -/
theorem barrier_wp (P : Prg F) (Y : PUnit → sProp 𝕄) :
    iprop(recs m ρ K ∗ levAts L lv ∗ (bigSep Finset.univ fun b : Fin 3 => dutyTok ER (cell (nb b c) .bar) 0 b)
        ∗ (bigSep Finset.univ fun p : Fin 6 × Fin 4 => freeSlot (F := F) c p.1 p.2) ∗ owing (F := F) c (O₀ c)
        ∗ cred (tallyAt (cell c .bar) 1 3) ∗ atPos ER (cell c .bar) 0 ∅ 0)
      ⊢ iprop((atPos ER (cell c .bar) 1 ∅ 0 ∗ (bigSep Finset.univ fun p : Fin 6 × Fin 4 => land (F := F) c p.1 (stp p.2 0))
          ∗ owing (F := F) c (dues c (starts ++ iters)) -∗ WP c P Y) -∗ WP c (barrier c P) Y) := by
  unfold barrier owing O₀
  rw [across_eq fun p => freeSlot (F := F) c p.1 p.2]
  rw [show (bigSep Finset.univ fun b : Fin 3 => dutyTok ER (cell (nb b c) .bar) 0 b : sProp 𝕄)
    = iprop(dutyTok ER (cell (nb 0 c) .bar) 0 0 ∗ dutyTok ER (cell (nb 1 c) .bar) 0 1 ∗ dutyTok ER (cell (nb 2 c) .bar) 0 2) from
      bigSep_univ_eq_bigSepL [0, 1, 2] (by decide) (by decide) _]
  iintro ⟨#HI, #Hl, ⟨T0, T1, T2⟩, ⟨F0, F1, F2⟩, ⟨%W, HO⟩, Hc, Hat⟩ Hk
  iapply (bar_signal m ρ K c 0 _ (dev1_eq c) _ (dues c (starts ++ iters) + barDue c 2 + barDue c 1) W Y) $$ [T0 F0 HO]
  · isplitr; · iexact HI
    isplitl [T0]; · iexact T0
    isplitl [F0]; · iexact F0
    iexact HO
  iintro HO
  iapply (bar_signal m ρ K c 1 _ (dev2_eq c) _ (dues c (starts ++ iters) + barDue c 2) W Y) $$ [T1 F1 HO]
  · isplitr; · iexact HI
    isplitl [T1]; · iexact T1
    isplitl [F1]; · iexact F1
    iexact HO
  iintro HO
  iapply (bar_signal m ρ K c 2 _ (dev3_eq c) _ (dues c (starts ++ iters)) W Y) $$ [T2 F2 HO]
  · isplitr; · iexact HI
    isplitl [T2]; · iexact T2
    isplitl [F2]; · iexact F2
    iexact HO
  iintro HO
  iapply (Rounds.wp_wait_rest_token 𝒱₀ ER (Rd m ρ) (c : Thread nD τ) none (κ := K (c, none)) (wpE_semWait_eq 𝒱₀ (c : Thread nD τ) none Set.univ)
      (Set.mem_univ _) 1 (O := dues c (starts ++ iters)) (W := W) (R := 0) (m := 0) (T := ∅)
      (by rw [Nat.zero_add]; exact ((expect_cell m ρ c .bar 0).trans (by decide)).symm)) $$ [Hc Hat HO]
  · isplitr; · iapply (recs_inv m ρ K c none); iexact HI
    isplitl [Hc]; · iexact Hc
    isplitl [HO]; · iexact HO
    isplitr; · iapply (mayWait_of (by decide) c (.reg barS) _ (above_bar c)); iexact Hl
    iexact Hat
  iintro ⟨HO, Hat, -, Hp⟩
  ihave Hp := (Entails.of_eq (rest_bar m ρ c)) $$ Hp
  iapply Hk
  isplitl [Hat]; · iexact Hat
  isplitl [Hp]; · iexact Hp
  iexists _; iexact HO

/-! ## The end -/

def endAt : KI → ℕ
  | none => 1
  | some (a, _, s) => (![endR s, endR s, endL s] : Fin 3 → ℕ) a

theorem duties_end (k : KI) (r : ℕ) (h : endAt k ≤ r) : (Rd (F := F) m ρ).duties (cell c (kd k)) r = ∅ := by
  rw [duties_cell]
  have hR : ∀ s : Fin 4, 7 ≤ s.val + 4 * endR s := by decide +kernel
  have hL : ∀ s : Fin 4, endL s = 0 → 3 ≤ s.val := by decide +kernel
  match k with
  | none => have h : 1 ≤ r := h; exact if_neg (by omega)
  | some (0, i, s) => have h : endR s ≤ r := h; have := hR s; exact if_neg (by omega)
  | some (1, i, s) => have h : endR s ≤ r := h; have := hR s; exact if_neg (by omega)
  | some (2, i, s) => have h : endL s ≤ r := h; have := hL s; exact if_neg (by omega)

/-- Every cell closes. -/
theorem close_all : iprop(recs m ρ K ∗ atAll (F := F) c endAt) ⊢ |={Set.univ}=> bigSep Finset.univ fun k : KI => (semVal (cell c (kd k)) 0 : sProp 𝕄) := by
  unfold atAll
  refine (bigSep_with_persistent (Ψ := fun k : KI => iprop(|={Set.univ}=> (semVal (cell c (kd k)) 0 : sProp 𝕄))) fun k _ => ?_).trans (bigSep_fupd _ _)
  iintro ⟨#HI, H⟩
  iapply (Rounds.cell_close ER (Rd m ρ) (Set.mem_univ (K (c, k))) (fun h => h) (R := endAt k) (duties_end m ρ c k)) $$ [H]
  isplitr; · iapply (recs_inv m ρ K c k); iexact HI
  iexact H

theorem late_slot (s : Fin 4) : slot (late s) = s := by revert s; decide +kernel

theorem free_all : iprop((bigSep Finset.univ fun p : Fin 6 × Fin 4 => slotPts m ρ fullShare.left c p.1 (late p.2))
      ∗ (bigSep Finset.univ fun p : Fin 6 × Fin 4 => slotPts m ρ fullShare.right c p.1 (late p.2)))
    ⊢ bigSep Finset.univ fun i => bufAny (F := F) c i := by
  rw [← bigSep_sep', bigSep_univ_prod]
  refine bigSep_mono fun i _ => ?_
  refine (bigSep_mono fun s _ => ?_).trans (slots_buf c i (m _))
  have h := freeSlot_of m ρ c i (late s)
  rw [late_slot] at h
  exact h

/-- What a device holds at the end, sorted. -/
theorem st_end : iprop(atPos ER (cell c .bar) 1 ∅ 0 ∗ St m ρ c fun _ => endSet)
    ⊢ iprop(atAll (F := F) c endAt ∗ xPts m ρ fullShare.left c ∗ bigSep Finset.univ fun i => bufAny (F := F) c i) := by
  unfold St atAll
  rw [bigSep_congr fun i _ => end_eq (pk m ρ c i)]
  dsimp only [pk]
  rw [bigSep_sep', bigSep_sep', bigSep_sep', bigSep_sep', bigSep_sep', ← xPts_rows, ki_eq]
  simp only [nested]
  rw [bigSep_sep', bigSep_sep']
  iintro ⟨Hb, Hx, L, R, ⟨S, -⟩, ⟨V, -⟩, C⟩
  isplitl [Hb S V C]
  · isplitl [Hb]; · iexact Hb
    isplitl [S]; · iexact S
    isplitl [V]; · iexact V
    iexact C
  isplitl [Hx]; · iexact Hx
  iapply (free_all m ρ c) $$ [L R]
  isplitl [L]; · iexact L
  iexact R

/-! ## The body -/

theorem free_start : (bigSep Finset.univ fun i => bufAny (F := F) c i) ⊢ bigSep Finset.univ fun p : Fin 6 × Fin 4 => freeSlot (F := F) c p.1 p.2 := by
  rw [bigSep_univ_prod]
  exact bigSep_mono fun i _ => buf_slots c i

theorem body_wp (Y : PUnit → sProp 𝕄) :
    iprop(recs m ρ K ∗ levAts L lv ∗ payToks (F := F) c ∗ atAll (F := F) c (fun _ => 0) ∗ creds (F := F) c ∗ (bigSep Finset.univ fun i => bufAny (F := F) c i)
        ∗ owing (F := F) c (O₀ c) ∗ xPts m ρ fullShare c ∗ wPts m ρ c ∗ outSt m ρ c ∅)
      ⊢ iprop((((bigSep Finset.univ fun i => bufAny (F := F) c i) ∗ (bigSep Finset.univ fun k : KI => (semVal (cell c (kd k)) 0 : sProp 𝕄))
          ∗ owing (F := F) c 0 ∗ xPts m ρ fullShare c ∗ wPts m ρ c ∗ outSt m ρ c Finset.univ) -∗ Y ⟨⟩) -∗ WP c (body c) Y) := by
  unfold payToks creds body atAll
  rw [ki_eq]
  iintro ⟨#HI, #Hl, ⟨TB, T1, T2, T3⟩, ⟨PB, P0, P1, P2⟩, ⟨CB, C1, C2⟩, Hbuf, HO, Hx, Hw, Ho⟩ Hk
  ihave Hf := (free_start (F := F) c) $$ Hbuf
  iapply (barrier_wp m ρ K c _ Y) $$ [TB Hf HO CB PB]
  · isplitr; · iexact HI
    isplitr; · iexact Hl
    isplitl [TB]; · iexact TB
    isplitl [Hf]; · iexact Hf
    isplitl [HO]; · iexact HO
    isplitl [CB]; · iexact CB
    iexact PB
  iintro ⟨PB, Hland, HO⟩
  ihave Hx' := (xPts_halves m ρ c).1 $$ Hx
  icases Hx' with ⟨Hxl, Hxr⟩
  ihave HS := (st_start m ρ K c) $$ [T1 T2 T3 Hland Hxl P0 P1 P2 C1 C2]
  · isplitr; · iexact HI
    isplitl [T1]; · iexact T1
    isplitl [T2]; · iexact T2
    isplitl [T3]; · iexact T3
    isplitl [Hland]; · iexact Hland
    isplitl [Hxl]; · iexact Hxl
    isplitl [P0]; · iexact P0
    isplitl [P1]; · iexact P1
    isplitl [P2]; · iexact P2
    isplitl [C1]; · iexact C1
    iexact C2
  iapply (run_wp m ρ K c starts iters (fun _ => startSet) (fun _ => midSet) runs_starts timely_all ∅ _ Y) $$ [HS HO Hw Ho]
  · isplitr; · iexact HI
    isplitr; · iexact Hl
    isplitl [HS]; · iexact HS
    isplitl [HO]; · iexact HO
    isplitl [Hw]; · iexact Hw
    iexact Ho
  rw [outs_starts, Finset.union_empty]
  iintro ⟨HS, HO, Hw, Ho⟩
  iapply (own_wp m ρ c ∅ _ Y fullShare.right) $$ [Hxr Hw Ho]
  · isplitl [Hxr]; · unfold xPts; iexact Hxr
    isplitl [Hw]; · iexact Hw
    iexact Ho
  iintro ⟨Hxr, Hw, Ho⟩
  rw [Finset.empty_union]
  ihave HO := (Entails.of_eq (congrArg (fun l => owing (F := F) c (dues c l)) (List.append_nil iters).symm)) $$ HO
  iapply (run_wp m ρ K c iters [] (fun _ => midSet) (fun _ => endSet) runs_iters timely_iters {none} _ Y) $$ [HS HO Hw Ho]
  · isplitr; · iexact HI
    isplitr; · iexact Hl
    isplitl [HS]; · iexact HS
    isplitl [HO]; · iexact HO
    isplitl [Hw]; · iexact Hw
    iexact Ho
  rw [outs_iters]
  iintro ⟨HS, HO, Hw, Ho⟩
  ihave HE := (st_end m ρ c) $$ [PB HS]
  · isplitl [PB]; · iexact PB
    iexact HS
  icases HE with ⟨Hat, Hxl, Hbuf⟩
  imod (close_all m ρ K c) $$ [Hat] with Hz
  · isplitr; · iexact HI
    iexact Hat
  ihave Hx := (xPts_halves m ρ c).2 $$ [Hxl Hxr]
  · isplitl [Hxl]; · iexact Hxl
    unfold xPts; iexact Hxr
  rw [wp_ret]; imodintro
  iapply Hk
  isplitl [Hbuf]; · iexact Hbuf
  isplitl [Hz]; · iexact Hz
  isplitl [HO]; · iexact HO
  isplitl [Hx]; · iexact Hx
  isplitl [Hw]; · iexact Hw
  iexact Ho

end
end Cert.KernelIdeal.Gather
-- ==== Proof.KernelIdeal.Program.lean ====
/-
  The printed body is the program that the list of steps denotes.
-/
module

public import proofs.«01_k».proof.Proof.KernelIdeal.Ops

@[expose] public section
noncomputable section
namespace Cert.KernelIdeal.Gather
open Cert.KernelIdeal Cert.KernelIdeal.Gen
open Idealize.ShloMosaic Idealize.ShloMosaic.TcCoe
open Idealize.SL Idealize.SL.Sem
variable {F : FTy → Type} [FloatOps F]

set_option maxHeartbeats 40000000 in
set_option maxRecDepth 100000 in
theorem body_eq : cc0_body (F := F) xM (Memref.isWhole_whole _) wM (Memref.isWhole_whole _) oM (Memref.isWhole_whole _)
    (Memref.whole cc0_scratch0) (Memref.isWhole_whole _) cc0_scratch1 cc0_scratch2 cc0_scratch3 (Memref.whole cc0_scratch4) (Memref.isWhole_whole _) cc0_scratch5 cc0_scratch6 cc0_scratch7
    (Memref.whole cc0_scratch8) (Memref.isWhole_whole _) cc0_scratch9 cc0_scratch10 cc0_scratch11 (Memref.whole cc0_scratch12) (Memref.isWhole_whole _) cc0_scratch13 cc0_scratch14 cc0_scratch15
    (Memref.whole cc0_scratch16) (Memref.isWhole_whole _) cc0_scratch17 cc0_scratch18 cc0_scratch19 (Memref.whole cc0_scratch20) (Memref.isWhole_whole _) cc0_scratch21 cc0_scratch22 cc0_scratch23
      = .op .deviceId body := by
  rw [cc0_body_eq_skeleton]
  rfl

end Cert.KernelIdeal.Gather
-- ==== Proof.KernelIdeal.Launch.lean ====
/-
  The launch: what the devices are dealt, how the duties' tokens come to the devices that pay them, and the run of the whole mesh.
-/
module

public import proofs.«01_k».proof.Proof.KernelIdeal.Body
public import proofs.«01_k».proof.Proof.KernelIdeal.Program
public import proofs.«01_k».proof.Proof.Gen.KernelIdeal.Launch
public import proofs.«01_k».proof.Proof.Gen.KernelIdeal.Points
public import Idealize.ShloMosaic.Lib.Pipeline.CollectiveSegs

@[expose] public section
noncomputable section
namespace Cert.KernelIdeal.Gather
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ) (ρ : Dev nD → PrngReg)

/-! ## The semaphores -/

/-- The kernel's own semaphores: every cell of a device but the barrier. -/
abbrev osem : Fin 3 × Fin 6 × Fin 4 → SemLoc sig := fun p => semOf (kd (some p))
theorem ownSemFacts : Pipeline.OwnSemFacts cfg0.spec osem := by decide +kernel

theorem ki_split (Φ : KI → sProp 𝕄) : bigSep Finset.univ Φ = iprop(Φ none ∗ bigSep Finset.univ fun p : Fin 3 × Fin 6 × Fin 4 => Φ (some p)) := by
  have h : (Finset.univ : Finset KI) = insert none (Finset.univ.image some) := by decide +kernel
  rw [h, bigSep_insert (by decide +kernel), bigSep_image_of_injOn (Option.some_injective _).injOn]
  rfl

theorem unscoped_eq (c : Dev nD) : (unscopedSems0 c : sProp 𝕄) = semVal (cell c .bar) 0 := by
  unfold unscopedSems0; rw [bigSep_eq_bigSepL_of_eq [SemLoc.reg barS] (by decide +kernel) (by decide +kernel)]; rfl

theorem sems_eq (c : Dev nD) : (bigSep Finset.univ fun k : KI => (semVal (cell c (kd k)) 0 : sProp 𝕄))
    = iprop(unscopedSems0 c ∗ Pipeline.ownSems0 (Ix := ℕ) (Name := ℕ) (U := UU) (Lvl := ℕ) (Val := Elt F) (τ := τ) osem c) := by
  rw [ki_split, unscoped_eq]; rfl

/-! ## The data of the pipeline -/

/-- What a device starts from. -/
def start (c : Dev nD) : sProp 𝕄 :=
  iprop((∃ K, recs m ρ K) ∗ payToks (F := F) c ∗ atAll (F := F) c (fun _ => 0) ∗ creds (F := F) c ∗ levAts L lv)
def Φ₀ (c : Dev nD) : sProp 𝕄 := iprop(start m ρ c ∗ bigSep Finset.univ fun i => bufAny (F := F) c i)
/-- What it holds at the end: its buffers, and every cell closed. -/
def Φ₁ (c : Dev nD) : sProp 𝕄 :=
  iprop((bigSep Finset.univ fun i => bufAny (F := F) c i) ∗ bigSep Finset.univ fun k : KI => semVal (cell c (kd k)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt (0 : ℕ) (Fin.castSucc (n := cfg0.N) t0_0)
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt (0 : ℕ) (Fin.succ (n := cfg0.N) t0_0) ∗ stg c cc0_stg0_0 (xstg m ρ c) ∗ stg c cc0_stg1_0 (wstg m ρ c) ∗ stg c cc0_stg2_0 (outAt m ρ c))

/-- The body, from what the pipeline hands it to what it hands back. -/
theorem body_ok (c : Dev nD) :
    bodyPre m ρ c ⊢ WP c (.op .deviceId body) (fun _ => bodyPost m ρ c) := by
  unfold bodyPre Φ₀ start WP
  rw [wp_deviceId]
  iintro ⟨⟨⟨⟨%K, HI⟩, Ht, Ha, Hc, Hl⟩, Hb⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  iapply (body_wp m ρ K c fun _ => bodyPost m ρ c) $$ [HI Ht Ha Hc Hl Hb HO Hx Hw Hout]
  · isplitl [HI]; · iexact HI
    isplitl [Hl]; · iexact Hl
    isplitl [Ht]; · iexact Ht
    isplitl [Ha]; · iexact Ha
    isplitl [Hc]; · iexact Hc
    isplitl [Hb]; · iexact Hb
    isplitl [HO]; · unfold owing; iexists W; iexact HO
    isplitl [Hx]; · unfold xPts; iexact Hx
    isplitl [Hw]; · unfold wPts; iexact Hw
    unfold outSt
    iexists g2
    isplitr; · ipureintro; exact outOk_empty m ρ c g2
    iexact Hout
  unfold bodyPost Φ₁ Dat.owesAt Pipeline.owesWithin owing xPts wPts outSt
  iintro ⟨Hb, Hs, ⟨%W', HO⟩, Hx, Hw, ⟨%f, %hf, Hout⟩⟩
  have hf' := outAt_of m ρ c f hf
  isplitl [Hb Hs]
  · isplitl [Hb] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f; isplitr; · (ipureintro; exact hf')
  iexact Hout

set_option maxRecDepth 30000 in
theorem body_obligation (c : Dev nD) : BodyObligation (dats (F := F) m ρ 0 c) (defs₀ (F := F)) 𝒱₀ (0 : ℕ) Set.univ := fun t => by
  rw [show t = t0_0 from fin_N0 t]
  rw [bigSep_W0, bigSep_W0]
  have h := body_ok m ρ c
  rw [← body_eq] at h
  simp only [owns_whole]
  exact h

/-! ## What the launch deals -/

/-- A device's duties, counted at the cells that they are paid to. -/
abbrev TK := Fin 3 ⊕ ((Fin 6 × Fin 7) ⊕ ((Fin 6 × Fin 7) ⊕ (Fin 6 × Fin 3)))
def tk : TK → Kind × ℕ × Fin 3
  | .inl b => (.bar, 0, b)
  | .inr (.inl p) => (.send p.1 (slot p.2), p.2.val / 4, 0)
  | .inr (.inr (.inl p)) => (.recv p.1 (slot p.2), p.2.val / 4, 0)
  | .inr (.inr (.inr p)) => (.leave p.1 (slot (lt p.2)), 0, 0)
set_option maxRecDepth 20000 in
theorem tk_inj : Function.Injective tk := by decide +kernel
theorem kd_inj : Function.Injective kd := by decide +kernel
theorem semOf_inj : Function.Injective semOf := fun a b h => by rw [← kind_semOf a, ← kind_semOf b, h]
theorem cell_inj {c c' : Dev nD} {k k' : Kind} (h : cell c k = cell c' k') : c = c' ∧ k = k' :=
  ⟨congrArg (fun g : GSem nD τ sig => g.1.1) h, semOf_inj (congrArg Prod.snd h)⟩

def cellAt (x : Dev nD × KI) : GSem nD τ sig := cell x.1 (kd x.2)
theorem cellAt_inj : Function.Injective cellAt := fun x y h => Prod.ext (cell_inj h).1 (kd_inj (cell_inj h).2)
def tokAt (x : Dev nD × TK) : GSem nD τ sig × ℕ × Fin 3 := (cell x.1 (tk x.2).1, (tk x.2).2)
theorem tokAt_inj : Function.Injective tokAt := fun x y h => by
  have h0 : (cell x.1 (tk x.2).1, (tk x.2).2) = (cell y.1 (tk y.2).1, (tk y.2).2) := h
  have h1 := cell_inj (congrArg Prod.fst h0)
  have h2 : (tk x.2).2 = (tk y.2).2 := congrArg (fun z : GSem nD τ sig × ℕ × Fin 3 => z.2) h0
  exact Prod.ext h1.1 (tk_inj (Prod.ext h1.2 h2))

def cellsAll : Finset (GSem nD τ sig) := Finset.univ.map ⟨cellAt, cellAt_inj⟩
def toksAll : Finset (GSem nD τ sig × ℕ × Fin 3) := Finset.univ.map ⟨tokAt, tokAt_inj⟩
def u₀ : UU := (initOf (Pipeline.cells cfgs cellOf_inj) (Pipeline.launchToks cfgs cellOf_inj), initOf cellsAll toksAll)

/-- The tokens of the duties that are paid to device `c`'s cells. -/
def toks (c : Dev nD) : sProp 𝕄 :=
  iprop((bigSep Finset.univ fun b : Fin 3 => dutyTok ER (cell c .bar) 0 b)
    ∗ (bigSep Finset.univ fun p : Fin 6 × Fin 7 => dutyTok ER (cell c (.send p.1 (slot p.2))) (p.2.val / 4) 0)
    ∗ (bigSep Finset.univ fun p : Fin 6 × Fin 7 => dutyTok ER (cell c (.recv p.1 (slot p.2))) (p.2.val / 4) 0)
    ∗ (bigSep Finset.univ fun p : Fin 6 × Fin 3 => dutyTok ER (cell c (.leave p.1 (slot (lt p.2)))) 0 0))

def G (c : Dev nD) : sProp 𝕄 :=
  iprop((bigSep Finset.univ fun k : KI => roundState ER (Rd m ρ) (cell c (kd k)) 0)
    ∗ ((bigSep Finset.univ fun k : KI => atPos ER (cell c (kd k)) 0 ∅ 0) ∗ (bigSep Finset.univ fun k : KI => reached ER (cell c (kd k)) 0)) ∗ toks (F := F) c)
def G' (c : Dev nD) : sProp 𝕄 := iprop((∃ K, recs m ρ K) ∗ payToks (F := F) c ∗ atAll (F := F) c (fun _ => 0))

theorem fund_all : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k : KI => Φ (cell c (kd k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by unfold toks; rw [bigSep_univ_sum, bigSep_univ_sum, bigSep_univ_sum]; rfl
  iintro HX
  imod (Rounds.fund ER (Rd m ρ) cellsAll toksAll) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : KI => iprop(∃ κ : ℕ, cellInv ER (Rd m ρ) κ (cell c (kd k))))
          ∗ ((bigSep Finset.univ fun k : KI => atPos ER (cell c (kd k)) 0 ∅ 0) ∗ (bigSep Finset.univ fun k : KI => reached ER (cell c (kd k)) 0)) ∗ toks (F := F) c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : KI => semVal (cell c (kd k)) 0) ∗ bigSep Finset.univ fun k : KI => roundState ER (Rd m ρ) (cell c (kd k)) 0)
      ⊢ (|={Set.univ}=> bigSep Finset.univ fun k : KI => iprop(∃ κ : ℕ, cellInv ER (Rd m ρ) κ (cell c (kd k))) : sProp 𝕄) from by
        rw [← bigSep_sep']
        exact (bigSep_mono fun k _ => (Rounds.body_intro ER (Rd m ρ) (cell c (kd k))).trans inv_alloc).trans (bigSep_fupd _ _)) $$ [Hv Hst] with Hinv
  · isplitl [Hv] <;> iassumption
  imodintro
  isplitl [Hinv]; · iexact Hinv
  isplitl [Hat]; · iexact Hat
  iexact Htok

/-- A family indexed by a device and an index, with the devices permuted at every index. -/
theorem moved {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [nested, nested (F := F) fun c i => Φ (e i c) i]
  exact bigSep_univ_equiv (⟨fun x => (e x.2 x.1, x.2), fun x => ((e x.2).symm x.1, x.2), fun x => by simp, fun x => by simp⟩ : Dev nD × I ≃ Dev nD × I)
    fun x : Dev nD × I => Φ x.1 x.2

/-- The tokens, from the devices whose cells they are paid to, to the devices that pay them. -/
theorem toks_moved : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    moved (F := F) nbE (fun c b => dutyTok ER (cell c .bar) 0 b),
    moved (F := F) (fun p : Fin 6 × Fin 7 => nbE (bit p.1 (slot p.2))) (fun c p => dutyTok ER (cell c (.recv p.1 (slot p.2))) (p.2.val / 4) 0),
    moved (F := F) (fun p : Fin 6 × Fin 3 => nbE (bit p.1 (slot (lt p.2)))) (fun c p => dutyTok ER (cell c (.leave p.1 (slot (lt p.2)))) 0 0)]
  rfl

theorem regroup :
    (bigSep Finset.univ fun c : Dev nD => iprop((bigSep Finset.univ fun k : KI => iprop(∃ κ : ℕ, cellInv ER (Rd m ρ) κ (cell c (kd k))))
          ∗ ((bigSep Finset.univ fun k : KI => atPos ER (cell c (kd k)) 0 ∅ 0) ∗ (bigSep Finset.univ fun k : KI => reached ER (cell c (kd k)) 0)) ∗ toks (F := F) c) : sProp 𝕄)
      ⊢ bigSep Finset.univ (G' m ρ) := by
  rw [bigSep_sep', bigSep_sep', bigSep_sep', nested, nested (F := F) (fun c k => reached ER (cell c (kd k)) 0), toks_moved]
  iintro ⟨HI, ⟨Hat, HR⟩, Htok⟩
  ihave HK := (BI.bigSep_exists_pi Finset.univ (fun (ck : Dev nD × KI) (κ : ℕ) => (cellInv ER (Rd m ρ) κ (cell ck.1 (kd ck.2)) : sProp 𝕄))) $$ HI
  icases HK with ⟨%K, HI⟩
  ihave Hrec := (show iprop((bigSep Finset.univ fun ck : Dev nD × KI => cellInv ER (Rd m ρ) (K ck) (cell ck.1 (kd ck.2)))
      ∗ bigSep Finset.univ fun ck : Dev nD × KI => reached ER (cell ck.1 (kd ck.2)) 0) ⊢ recs m ρ K from by
        unfold recs; rw [bigSep_sep']) $$ [HI HR]
  · isplitl [HI]; · iexact HI
    iexact HR
  ihave Hrest := (Entails.of_eq (bigSep_sep' Finset.univ (fun c : Dev nD => (payToks c : sProp 𝕄)) (fun c => atAll c fun _ => 0)).symm) $$ [Htok Hat]
  · isplitl [Htok]; · iexact Htok
    unfold atAll; iexact Hat
  iapply (bigSep_with_persistent (R := recs m ρ K) (S := Finset.univ) (Φ := fun c : Dev nD => iprop(payToks c ∗ atAll c fun _ => 0)) (Ψ := G' m ρ)
    (fun c _ => show iprop(recs m ρ K ∗ payToks c ∗ atAll c fun _ => 0) ⊢ G' m ρ c from by
      unfold G'
      iintro ⟨HI, Hp, Ha⟩
      isplitl [HI]; · iexists K; iexact HI
      isplitl [Hp]; · iexact Hp
      iexact Ha))
  isplitl [Hrec]; · iexact Hrec
  iexact Hrest

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The rights to wait -/

/-- The right to wait that a step of the partner's gives. -/
def crd (c : Dev nD) : Fin 6 × LOp → sProp 𝕄
  | (i, .start t) => cred (tallyAt (cell c (.recv i (slot t))) (tR i t) (credit i))
  | (i, .sig t) => cred (tallyAt (cell c (.leave i (slot (t + 3)))) (tL i (t + 3)) 1)
  | _ => iprop(emp)

theorem cred_due (c : Dev nD) (p : Fin 6 × LOp) : (Pipeline.launchCred (fun d => due d p) c : sProp 𝕄) ⊢ crd c p := by
  obtain ⟨i, o⟩ := p
  cases o with
  | start t => exact Pipeline.launchCred_tallyAt _ (peer i t) (peer i t) (peer_peer i t) (peer_peer i t) _ _ c
  | sig t => exact Pipeline.launchCred_tallyAt _ (peer i (t + 3)) (peer i (t + 3)) (peer_peer i (t + 3)) (peer_peer i (t + 3)) _ _ c
  | wrecv t => exact Entails.of_eq (Pipeline.launchCred_zero c)
  | wcred t => exact Entails.of_eq (Pipeline.launchCred_zero c)
  | wsend t => exact Entails.of_eq (Pipeline.launchCred_zero c)
  | gemm t => exact Entails.of_eq (Pipeline.launchCred_zero c)

theorem cred_dues (c : Dev nD) (l : List (Fin 6 × LOp)) : (Pipeline.launchCred (fun d => dues d l) c : sProp 𝕄) ⊢ sepL (crd (F := F) c) l := by
  induction l with
  | nil => exact Entails.of_eq (Pipeline.launchCred_zero c)
  | cons p l ih =>
    show (Pipeline.launchCred (fun d => dues d l + due d p) c : sProp 𝕄) ⊢ iprop(crd c p ∗ sepL (crd c) l)
    rw [Pipeline.launchCred_add]
    iintro ⟨Hl, Hp⟩
    isplitl [Hp]
    · iapply (cred_due (F := F) c p); iexact Hp
    · iapply ih; iexact Hl

def stOf (p : Fin 6 × Fin 7) : Fin 6 × LOp := (p.1, .start p.2)
def sgOf (p : Fin 6 × Fin 3) : Fin 6 × LOp := (p.1, .sig ⟨p.2.val + 1, by omega⟩)
theorem stOf_inj : Function.Injective stOf := by decide +kernel
theorem sgOf_inj : Function.Injective sgOf := by decide +kernel
theorem ops_nodup : (starts ++ iters).Nodup := by decide +kernel
theorem ops_sub : Finset.univ.image stOf ∪ Finset.univ.image sgOf ⊆ (starts ++ iters).toFinset := by decide +kernel
theorem ops_disj : Disjoint (Finset.univ.image stOf) (Finset.univ.image sgOf) := by decide +kernel
theorem sg_lt (k : Fin 3) : (⟨k.val + 1, by omega⟩ : Fin 7) + 3 = lt k := by revert k; decide +kernel

theorem cred_bar (c : Dev nD) (b : Fin 3) : (Pipeline.launchCred (fun d => barDue d b) c : sProp 𝕄) ⊢ cred (tallyAt (cell c .bar) 1 1) :=
  Pipeline.launchCred_tallyAt _ (nb b) (nb b) (nb_nb b) (nb_nb b) _ _ c

theorem cred_three (c : Dev nD) :
    iprop(cred (tallyAt (cell c .bar) 1 1) ∗ cred (tallyAt (cell c .bar) 1 1) ∗ cred (tallyAt (cell c .bar) 1 1)) ⊢ (cred (tallyAt (cell c .bar) 1 3) : sProp 𝕄) := by
  have h : (tallyAt (cell c .bar) 1 3 : CellTallies nD τ sig ℕ) = tallyAt (cell c .bar) 1 1 + (tallyAt (cell c .bar) 1 1 + tallyAt (cell c .bar) 1 1) := by
    rw [tallyAt_add, tallyAt_add]
  rw [h]
  exact (sep_mono_right (cred_add _ _).2).trans (cred_add _ _).2

theorem creds_intro (c : Dev nD) : (Pipeline.launchCred O₀ c : sProp 𝕄) ⊢ creds c := by
  have hl : sepL (crd (F := F) c) (starts ++ iters) ⊢ iprop((bigSep Finset.univ fun p : Fin 6 × Fin 7 => cred (tallyAt (cell c (.recv p.1 (slot p.2))) (tR p.1 p.2) (credit p.1)))
      ∗ (bigSep Finset.univ fun p : Fin 6 × Fin 3 => cred (tallyAt (cell c (.leave p.1 (slot (lt p.2)))) (tL p.1 (lt p.2)) 1)) : sProp 𝕄) := by
    rw [← sepL_eq _ _ ops_nodup, ← Finset.sdiff_union_of_subset ops_sub, bigSep_union Finset.sdiff_disjoint, bigSep_union ops_disj,
      bigSep_image_of_injOn stOf_inj.injOn, bigSep_image_of_injOn sgOf_inj.injOn]
    rw [bigSep_congr (s := (Finset.univ : Finset (Fin 6 × Fin 3))) (Ψ := fun p => cred (tallyAt (cell c (.leave p.1 (slot (lt p.2)))) (tL p.1 (lt p.2)) 1))
      fun p _ => by rw [← sg_lt]; rfl]
    refine show iprop(_ ∗ (_ ∗ _)) ⊢ _ from ?_
    iintro ⟨-, H1, H2⟩
    isplitl [H1]; · iexact H1
    iexact H2
  show (Pipeline.launchCred (fun d => dues d (starts ++ iters) + barDue d 2 + barDue d 1 + barDue d 0) c : sProp 𝕄) ⊢ _
  rw [Pipeline.launchCred_add, Pipeline.launchCred_add, Pipeline.launchCred_add]
  unfold creds
  iintro ⟨⟨⟨Hl, H2⟩, H1⟩, H0⟩
  ihave H2 := (cred_bar (F := F) c 2) $$ H2
  ihave H1 := (cred_bar (F := F) c 1) $$ H1
  ihave H0 := (cred_bar (F := F) c 0) $$ H0
  isplitl [H0 H1 H2]
  · iapply (cred_three (F := F) c)
    isplitl [H0]; · iexact H0
    isplitl [H1] <;> iassumption
  · iapply hl
    iapply (cred_dues (F := F) c (starts ++ iters)); iexact Hl

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  icases HG with ⟨HK, Hp, Ha⟩
  isplitl
  · isplitl [HK]; · iexact HK
    isplitl [Hp]; · iexact Hp
    isplitl [Ha]; · iexact Ha
    isplitl [Hc]; · iexact Hc
    iexact Hlev
  · iempintro

theorem bufs_eq (c : Dev nD) : (bigSep Finset.univ fun i => bufAny (F := F) c i) = (Pipeline.scopedRest cfg0.spec c : sProp 𝕄) := by
  rw [scopedRest0_eq, bigSep_univ_eq_bigSepL [0, 1, 2, 3, 4, 5] (by decide) (by decide)]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← bufs_eq]
  unfold Φ₀
  iintro ⟨Hs, -, Hb⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← bufs_eq]
  unfold Φ₁
  rw [sems_eq]
  iintro ⟨Hb, Hu, Ho⟩
  isplitl [Hu]; · iexact Hu
  isplitl [Ho] <;> iassumption

theorem above_add {n : ℕ} {O D : CellTallies nD τ sig ℕ} (hO : Above n O) (hD : Above n D) : Above n (O + D) := fun g k h => by
  have h' : 0 < O g k + D g k := h
  rcases Nat.eq_zero_or_pos (O g k) with h0 | h0
  · exact hD g k (by omega)
  · exact hO g k h0

theorem above_barDue (c : Dev nD) (b : Fin 3) : Above 0 (barDue c b) := fun g k h => by
  unfold barDue at h
  rw [tallyAt_apply] at h
  by_cases e : g = cell (nb b c) .bar ∧ k = 1
  · obtain ⟨rfl, rfl⟩ := e
    exact ⟨mem_L_of rfl (by decide), by decide⟩
  · rw [if_neg e] at h; exact absurd h (Nat.lt_irrefl 0)

theorem above0 (c : Dev nD) : Above 0 (O₀ c) :=
  above_add (above_add (above_add (fun g k h => ⟨(above_bar c g k h).1, Nat.lt_of_succ_lt (above_bar c g k h).2⟩) (above_barDue c 2)) (above_barDue c 1)) (above_barDue c 0)

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait_of (F := F) (by omega) c _ (O₀ c) (above0 c)
    · rw [show (dats m ρ 0 c).owed ⟨_ + 1, ht⟩ = 0 from rfl, MayWait_zero]; iintro -; iempintro

/-! ## The run -/

def finalA (c : Dev nD) (w : Fin cfg0.W) : Buf (Elt F) ((cfg0.win w).arr.view.loc (c : Thread nD τ)) := (dats m ρ 0 c).arrAt w cfg0.N

/-- The arrays after the run. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- On the mesh of eight devices, from any memory with every semaphore at zero, every fair run ends, with each device's result array at the
    contents computed, its arguments as they were, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_0 (c : Dev nD) : finalA m ρ c (0 : Fin 3) = (s₀ m ρ).mem (win0_0.arr.view.loc (c : Thread nD τ)) :=
  (dats (F := F) m ρ 0 c).arrAt_in (0 : Fin 3) rfl _
theorem finalA_1 (c : Dev nD) : finalA m ρ c (1 : Fin 3) = (s₀ m ρ).mem (win0_1.arr.view.loc (c : Thread nD τ)) :=
  (dats (F := F) m ρ 0 c).arrAt_in (1 : Fin 3) rfl _

end Cert.KernelIdeal.Gather

end
-- ==== Proof.KernelIdeal.Value.lean ====
/-
  What each device's result holds, over the extended reals: the positive part of the product of the whole `x` with the device's columns of `w`,
  which is the device's block of the reference's result.
-/
module

public import proofs.«01_k».proof.Proof.KernelIdeal.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.ValueIdx

@[expose] public section
noncomputable section
namespace Cert.KernelIdeal.Gather
open Cert.KernelIdeal Cert.KernelIdeal.Gen
open Idealize.ShloMosaic Idealize.ShloMosaic.TcCoe Idealize.ShloMosaic.ValueIdx Idealize.SL.Sem
open scoped BigOperators
variable (m : (ℓ : Loc nD τ sig) → Buf (Elt Ideal) ℓ) (ρ : Dev nD → PrngReg)

/-! ## The products -/

theorem dotD_plain (i : Fin 6) : dotD i = DotDims.plain (nrows i) 4096 256 := by
  match i with
  | 0 => rfl
  | 1 => rfl
  | 2 => rfl
  | 3 => rfl
  | 4 => rfl
  | 5 => rfl

/-- The positive part of a product into zeros, entry by entry. -/
theorem relu_dot (M : ℕ) (A : FVec Ideal ⟨2, ![M, 4096]⟩ .f32) (B : FVec Ideal ⟨2, ![4096, 256]⟩ .f32) (r : Fin M) (l : Fin 256) :
    maximumf (matmul (DotDims.plain M 4096 256) none A B (constant ⟨2, ![M, 256]⟩ .f32 0x00000000#32)) (broadcast ⟨2, ![M, 256]⟩ (Scalar.ofBits .f32 0x00000000#32)) (ix2 r l)
      = max (∑ k : Fin 4096, A (ix2 r k) * B (ix2 k l)) 0 := by
  have hz : (Scalar.ofBits .f32 0x00000000#32 : Ideal .f32) = 0 := Ideal.ofBits_zero_f32
  show max (FloatOps.matmul (DotDims.plain M 4096 256) none A B (constant ⟨2, ![M, 256]⟩ .f32 0x00000000#32) (ix2 r l)) (Scalar.ofBits .f32 0x00000000#32 : Ideal .f32) = _
  rw [Ideal.matmul_plain_apply, hz]
  show max ((Scalar.ofBits .f32 0x00000000#32 : Ideal .f32) + _) 0 = _
  rw [hz]
  exact congrArg (fun z => max z 0) (zero_add _)

/-! ## What the loads read -/

theorem offs0 : (![0, 0] : Fin 2 → ℕ) = fun _ => 0 := funext fun a => by fin_cases a <;> rfl
theorem read_w (f : (cc0_stg1_0 : Ref sig .tc).ty.Contents (Elt Ideal)) : wM.view.readAt (Elt Ideal) wR.toLoadRect f = f :=
  Memref.readAt_unit_zero (Elt Ideal) cc0_stg1_0 offs0 _ f
theorem read_x (f : (cc0_stg0_0 : Ref sig .tc).ty.Contents (Elt Ideal)) : xM.view.readAt (Elt Ideal) xR.toLoadRect f = f :=
  Memref.readAt_unit_zero (Elt Ideal) cc0_stg0_0 offs0 _ f

/-- The slot of step `t`, as the multiplication takes it: the window that the step delivers. -/
theorem slot_read (c : Dev nD) (i : Fin 6) (t : Fin 7) :
    shapeCast (Srow i) ((bufM i).view.readAt (Elt Ideal) (slotR i (slot t)).toLoadRect (bufC m ρ c i t)) (casts_row i) = rowsC m ρ (orig i t c) i := by
  have h : (slotM i (slot t)).view.read (Elt Ideal) (slotC m ρ c i t) = rowsC m ρ (orig i t c) i := View.read_write_univ _ _
  rw [← h]
  rfl

/-- A device's rows of `x`, its columns of `w` and its result, as matrices of numbers. -/
abbrev xv (d : Dev nD) : FVec Ideal ⟨2, ![512, 4096]⟩ .f32 := xstg m ρ d
abbrev wv (d : Dev nD) : FVec Ideal ⟨2, ![4096, 256]⟩ .f32 := wstg m ρ d
abbrev outv (c : Dev nD) : FVec Ideal ⟨2, ![4096, 256]⟩ .f32 := outAt m ρ c

theorem rows_apply (d : Dev nD) (i : Fin 6) (r : Fin (nrows i)) (k : Fin 4096) (h : row0 i + r.val < 512) :
    (rowsC m ρ d i : FVec Ideal (Srow i) .f32) (ix2 r k) = xv m ρ d (ix2 ⟨row0 i + r.val, h⟩ k) := by
  show xv m ρ d _ = xv m ρ d _
  congr 1
  funext a
  apply Fin.ext
  match a with
  | ⟨0, _⟩ => show row0 i + 1 * r.val = _; rw [Nat.one_mul]
  | ⟨1, _⟩ => show 0 + 1 * k.val = _; rw [Nat.one_mul, Nat.zero_add]

theorem own_apply (c : Dev nD) (r : Fin 512) (l : Fin 256) :
    ownPay m ρ c (ix2 r l) = max (∑ k : Fin 4096, xv m ρ c (ix2 r k) * wv m ρ c (ix2 k l)) 0 := by
  unfold ownPay k0_pay1
  rw [read_x, read_w, shapeCast_self, shapeCast_self]
  exact relu_dot 512 _ _ r l

theorem step_apply (c : Dev nD) (i : Fin 6) (t : Fin 7) (r : Fin (nrows i)) (l : Fin 256) (h : row0 i + r.val < 512) :
    stepPay m ρ c i t (ix2 r l) = max (∑ k : Fin 4096, xv m ρ (orig i t c) (ix2 ⟨row0 i + r.val, h⟩ k) * wv m ρ c (ix2 k l)) 0 := by
  unfold stepPay pay
  rw [slot_read, read_w, shapeCast_self, dotD_plain]
  refine (relu_dot (nrows i) _ _ r l).trans ?_
  simp only [rows_apply m ρ _ i r _ h]

theorem row_lt (i : Fin 6) (r : Fin (nrows i)) : row0 i + r.val < 512 := by
  have : row0 i + nrows i ≤ 512 := by revert i; decide +kernel
  omega

/-- The result's entries. -/
theorem out_apply (c : Dev nD) (a : Fin 4096) (l : Fin 256) (d : Dev nD) (r : Fin 512) (h : a.val = 512 * d.val + r.val) :
    outv m ρ c (ix2 a l) = max (∑ k : Fin 4096, xv m ρ d (ix2 r k) * wv m ρ c (ix2 k l)) 0 := by
  obtain ⟨k, hk⟩ := boxS_cover c (ix2 a l)
  have hm := (mem_boxS c k _).mp hk
  obtain ⟨x, -, hx⟩ := Finset.mem_map.mp hk
  have hv : outv m ρ c (ix2 a l) = boxPay m ρ c k x := by
    rw [← hx]; exact congrFun (outAt_ok m ρ c k (Finset.mem_univ k)) x
  rw [hv]
  rcases k with _ | ⟨i, t⟩
  · have h0 : k0_off1 c 0 + 1 * (x 0).val = a.val := congrArg (fun z : S4096x256.Idx => (z 0).val) hx
    have h1 : k0_off1 c 1 + 1 * (x 1).val = l.val := congrArg (fun z : S4096x256.Idx => (z 1).val) hx
    rw [off1_eq] at h0 h1
    have h0' : 512 * c.val + 1 * (x 0).val = a.val := h0
    have h1' : 0 + 1 * (x 1).val = l.val := h1
    have hx0 : (x 0).val < 512 := (x 0).isLt
    have hd : d = c := Fin.ext (by omega)
    subst hd
    have hxe : x = ix2 r l := by
      funext q
      match q with
      | ⟨0, _⟩ => exact Fin.ext (show (x 0).val = r.val by omega)
      | ⟨1, _⟩ => exact Fin.ext (show (x 1).val = l.val by omega)
    rw [hxe]
    exact own_apply m ρ d r l
  · have h0 : off i t c 0 + 1 * (x 0).val = a.val := congrArg (fun z : S4096x256.Idx => (z 0).val) hx
    have h1 : off i t c 1 + 1 * (x 1).val = l.val := congrArg (fun z : S4096x256.Idx => (z 1).val) hx
    rw [off_eq] at h0 h1
    have h0' : 512 * (orig i t c).val + row0 i + 1 * (x 0).val = a.val := h0
    have h1' : 0 + 1 * (x 1).val = l.val := h1
    let x0 : Fin (nrows i) := x 0
    have hx0 : row0 i + x0.val < 512 := row_lt i x0
    have hx0' : row0 i + (x 0).val < 512 := hx0
    have hd : d = orig i t c := Fin.ext (by omega)
    have hxe : x = ix2 x0 l := by
      funext q
      match q with
      | ⟨0, _⟩ => rfl
      | ⟨1, _⟩ => exact Fin.ext (show (x 1).val = l.val by omega)
    have hr : r = ⟨row0 i + x0.val, hx0⟩ := Fin.ext (show r.val = row0 i + (x 0).val by subst hd; omega)
    rw [hxe, hd, hr]
    exact step_apply m ρ c i t x0 l hx0

/-! ## The arrays -/

theorem idx0 : (fun a => (win0_0.index (0 : Fin 1)) a * main_arg0.ty.shape.size a) = fun _ => 0 := funext fun a => by fin_cases a <;> decide +kernel
theorem idx1 : (fun a => (win0_1.index (0 : Fin 1)) a * main_arg1.ty.shape.size a) = fun _ => 0 := funext fun a => by fin_cases a <;> decide +kernel
theorem idx2 : (fun a => (win0_2.index (0 : Fin 1)) a * main_v1.ty.shape.size a) = fun _ => 0 := funext fun a => by fin_cases a <;> decide +kernel

theorem xstg_eq (c : Dev nD) : xstg m ρ c = m ((c : Thread nD τ).loc main_arg0) :=
  Memref.read_access_unit_zero (Elt Ideal) main_arg0 idx0 (fun a => by fin_cases a <;> decide +kernel) _
theorem wstg_eq (c : Dev nD) : wstg m ρ c = m ((c : Thread nD τ).loc main_arg1) :=
  Memref.read_access_unit_zero (Elt Ideal) main_arg1 idx1 (fun a => by fin_cases a <;> decide +kernel) _

/-- The result array holds what the body leaves in the result's buffer. -/
theorem finalA_2 (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  rw [← h]
  exact (Memref.read_access_unit_zero (Elt Ideal) main_v1 idx2 (fun a => by fin_cases a <;> decide +kernel) _).symm

/-! ## The reference -/

/-- The reference's result. -/
abbrev refOut (X : FVec Ideal ⟨2, ![4096, 4096]⟩ .f32) (W : FVec Ideal ⟨2, ![4096, 2048]⟩ .f32) :
    FVec Ideal ⟨2, ![4096, 2048]⟩ .f32 :=
  maximumf (Host.dotGeneral Cert.ReferenceIdeal.dot_S4096x4096_S4096x2048_S4096x2048_1_0_0_1_n_n none X W)
    (broadcastInDim Cert.ReferenceIdeal.S4096x2048 ![] Cert.ReferenceIdeal.Facts₀.bcast_S_S4096x2048 (constant Cert.ReferenceIdeal.S_ .f32 0x00000000#32))

theorem ref_apply (X : FVec Ideal ⟨2, ![4096, 4096]⟩ .f32) (W : FVec Ideal ⟨2, ![4096, 2048]⟩ .f32)
    (a : Fin 4096) (b : Fin 2048) : refOut X W (ix2 a b) = max (∑ k : Fin 4096, X (ix2 a k) * W (ix2 k b)) 0 := by
  have hz : (Scalar.ofBits .f32 0x00000000#32 : Ideal .f32) = 0 := Ideal.ofBits_zero_f32
  show max (Host.dotGeneral (DotDims.plain 4096 4096 2048) none X W (ix2 a b)) (Scalar.ofBits .f32 0x00000000#32 : Ideal .f32) = _
  rw [StackMember.dotGeneral_plain_apply, hz]

/-- Each device's result is its block of the reference's. -/
theorem out_block (c : Dev nD) (X : FVec Ideal ⟨2, ![4096, 4096]⟩ .f32) (W : FVec Ideal ⟨2, ![4096, 2048]⟩ .f32)
    (hX : ∀ d : Dev nD, xv m ρ d = Layout.block ⟨2, ![512, 4096]⟩ ⟨2, ![4096, 4096]⟩ 0 8 d X)
    (hW : wv m ρ c = Layout.block ⟨2, ![4096, 256]⟩ ⟨2, ![4096, 2048]⟩ 1 8 c W) :
    outv m ρ c = Layout.block ⟨2, ![4096, 256]⟩ ⟨2, ![4096, 2048]⟩ 1 8 c (refOut X W) := by
  funext j
  obtain ⟨a, l, rfl⟩ : ∃ (a : Fin 4096) (l : Fin 256), j = ix2 a l := ⟨j 0, j 1, eq_ix2 j⟩
  have ha' : a.val < 4096 := a.isLt
  have hl' : l.val < 256 := l.isLt
  have hc' : c.val < 8 := c.isLt
  have hd : a.val / 512 < 8 := by omega
  rw [out_apply m ρ c a l ⟨a.val / 512, hd⟩ ⟨a.val % 512, Nat.mod_lt _ (by decide)⟩ (by show a.val = 512 * (a.val / 512) + a.val % 512; omega), hX, hW]
  have hb : c.val * 256 + l.val < 2048 := by omega
  have e : Layout.block ⟨2, ![4096, 256]⟩ ⟨2, ![4096, 2048]⟩ 1 8 c (refOut X W) (by decide) (ix2 a l) = refOut X W (ix2 a ⟨c.val * 256 + l.val, hb⟩) := by
    rw [Layout.block_apply]; congr 1; funext q
    match q with
    | ⟨0, _⟩ => rfl
    | ⟨1, _⟩ => rfl
  refine Eq.trans ?_ e.symm
  rw [ref_apply]
  congr 1
  refine Finset.sum_congr rfl fun k _ => ?_
  rw [Layout.block_apply, Layout.block_apply]
  congr 2
  · funext q
    match q with
    | ⟨0, _⟩ => exact Fin.ext (show (a.val / 512) * 512 + a.val % 512 = a.val by omega)
    | ⟨1, _⟩ => rfl
  · funext q
    match q with
    | ⟨0, _⟩ => rfl
    | ⟨1, _⟩ => rfl

end Cert.KernelIdeal.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore at zero. -/
theorem frame_kernel : Cert.quiescent_Kernel (hKernel := Cert.Kernel.Gen.facts) := fun m ρ _ =>
  (θ_run Cert.Kernel.defs _ _).mono
    (fun _ h => ⟨fun c => ⟨(h.1 c (0 : Fin 3)).trans (Cert.Kernel.Gather.finalA_0 m ρ c), (h.1 c (1 : Fin 3)).trans (Cert.Kernel.Gather.finalA_1 m ρ c)⟩, h.2⟩)
    (Cert.Kernel.Gather.run_main (F := Bits) m ρ)

/-- The same of the kernel over the extended reals. -/
theorem frame_ideal : Cert.quiescent_KernelIdeal (hKernelIdeal := Cert.KernelIdeal.Gen.facts) := fun m ρ _ =>
  (θ_run Cert.KernelIdeal.defs _ _).mono
    (fun _ h => ⟨fun c => ⟨(h.1 c (0 : Fin 3)).trans (Cert.KernelIdeal.Gather.finalA_0 m ρ c), (h.1 c (1 : Fin 3)).trans (Cert.KernelIdeal.Gather.finalA_1 m ρ c)⟩, h.2⟩)
    (Cert.KernelIdeal.Gather.run_main (F := Ideal) m ρ)

/-- The reference runs, leaves its arguments as they were and every semaphore at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each device's result is its block of the reference's. -/
theorem value : Cert.algebraic_KernelIdeal_ReferenceIdeal (hKernelIdeal := Cert.KernelIdeal.Gen.facts) (hReferenceIdeal := Cert.ReferenceIdeal.Gen.facts) := by
  intro m ρ m' ρ' _ hin
  refine ⟨Cert.KernelIdeal.Gather.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, (h.1 c (0 : Fin 3)).trans (Cert.KernelIdeal.Gather.finalA_0 m ρ c),
      (h.1 c (1 : Fin 3)).trans (Cert.KernelIdeal.Gather.finalA_1 m ρ c)⟩) (Cert.KernelIdeal.Gather.run_main (F := Ideal) m ρ)
    refine ((h.1 c (2 : Fin 3)).trans (Cert.KernelIdeal.Gather.finalA_2 m ρ c)).trans ?_
    exact Cert.KernelIdeal.Gather.out_block m ρ c _ _ (fun d => (Cert.KernelIdeal.Gather.xstg_eq m ρ d).trans (hin d).1)
      ((Cert.KernelIdeal.Gather.wstg_eq m ρ c).trans (hin c).2)
  · exact (θ_run Cert.ReferenceIdeal.defs _ _).mono (fun _ h => ⟨(h 0).1, (h 0).2⟩) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, value⟩

end Cert.Proof

end
